-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_node_once [hPre_every_node_once : Cert.Pre_every_node_once.Facts] (m : (ℓ : Loc Cert.KernelIdeal.nD Cert.KernelIdeal.τ Cert.KernelIdeal.sig) → Buf (Elt Ideal) ℓ) : Prop :=
  ∀ c : Dev Cert.KernelIdeal.nD,
    (Cert.Pre_every_node_once.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_node_once [hPre_every_node_once : Cert.Pre_every_node_once.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_node_once.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_every_node_once [hKernelIdeal : Cert.KernelIdeal.Facts] [hPre_every_node_once : Cert.Pre_every_node_once.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_node_once m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_every_node_once [hReferenceIdeal : Cert.ReferenceIdeal.Facts] [hPre_every_node_once : Cert.Pre_every_node_once.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_node_once m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_every_node_once [hKernelIdeal : Cert.KernelIdeal.Facts] [hReferenceIdeal : Cert.ReferenceIdeal.Facts] [hPre_every_node_once : Cert.Pre_every_node_once.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_node_once m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_every_node_once : Cert.Pre_every_node_once.Facts),
    quiescent_Kernel (hKernel := hKernel)
    ∧ quiescent_KernelIdeal (hKernelIdeal := hKernelIdeal)
    ∧ quiescent_KernelIdeal_pre_every_node_once (hKernelIdeal := hKernelIdeal) (hPre_every_node_once := hPre_every_node_once)
    ∧ quiescent_ReferenceIdeal (hReferenceIdeal := hReferenceIdeal)
    ∧ quiescent_ReferenceIdeal_pre_every_node_once (hReferenceIdeal := hReferenceIdeal) (hPre_every_node_once := hPre_every_node_once)
    ∧ preserves_Kernel_KernelIdeal
    ∧ algebraic_KernelIdeal_ReferenceIdeal_pre_every_node_once (hKernelIdeal := hKernelIdeal) (hReferenceIdeal := hReferenceIdeal) (hPre_every_node_once := hPre_every_node_once)
-- ==== Pre_every_node_once.lean ====
abbrev S2x100000x128 : Shape := ⟨3, ![2, 100000, 128]⟩
abbrev S100000 : Shape := ⟨1, ![100000]⟩
abbrev S_ : Shape := ⟨0, ![]⟩

class Facts : Prop where
  reducesTo_S100000_S_d0 : S100000.ReducesTo [0] S_
  h_S_ : 0 < S_.numel

variable [Facts]

def fn {F : FTy → Type} [FloatOps F] (main_arg0 : FVec F S2x100000x128 .f32) (main_arg1 : IVec S100000 32) (main_arg2 : FVec F S100000 .f32) : IVec S_ 1 :=
  let main_v0 : IVec S100000 32 := iotaInDim S100000 32 0
  let main_v1 : IVec S100000 1 := cmpi .eq main_arg1 main_v0
  let main_c : IVec S_ 1 := constantI S_ 1 1#1
  let main_v2 : IVec S_ 1 := (fun x v => Host.reduce IntOp.andi x v reducesTo_S100000_S_d0 h_S_) main_v1 main_c
  main_v2
-- ==== Kernel.lean ====
abbrev S2x100000x128 : Shape := ⟨3, ![2, 100000, 128]⟩
abbrev S100000 : Shape := ⟨1, ![100000]⟩
abbrev S2x25000x512 : Shape := ⟨3, ![2, 25000, 512]⟩
abbrev S25000x4 : Shape := ⟨2, ![25000, 4]⟩
abbrev S2x25000x128 : Shape := ⟨3, ![2, 25000, 128]⟩
abbrev S2x256x25x1x1000 : Shape := ⟨5, ![2, 256, 25, 1, 1000]⟩
abbrev S2x6400000 : Shape := ⟨2, ![2, 6400000]⟩
abbrev S2x1000x512 : Shape := ⟨3, ![2, 1000, 512]⟩
abbrev S1000x4 : Shape := ⟨2, ![1000, 4]⟩
abbrev S2x1000x128 : Shape := ⟨3, ![2, 1000, 128]⟩
abbrev S2x256x1x1x1000 : Shape := ⟨5, ![2, 256, 1, 1, 1000]⟩
abbrev S1000x1 : Shape := ⟨2, ![1000, 1]⟩
abbrev S1x1000x1 : Shape := ⟨3, ![1, 1000, 1]⟩
abbrev S128x2x1000 : Shape := ⟨3, ![128, 2, 1000]⟩
abbrev S256x1000 : Shape := ⟨2, ![256, 1000]⟩
abbrev S1x256x1x1x1000 : Shape := ⟨5, ![1, 256, 1, 1, 1000]⟩

abbrev nBuf : Space → Nat
  | .hbm => 8
  | .vmem => 8
  | .smem => 0
  | _ => 0

abbrev bufTy : (tb : Table) → Fin (tcTables nBuf tb) → BufTy
  | .hbm, ⟨0, _⟩ => ⟨S2x100000x128, .f32⟩
  | .hbm, ⟨1, _⟩ => ⟨S100000, .i32⟩
  | .hbm, ⟨2, _⟩ => ⟨S100000, .f32⟩
  | .hbm, ⟨3, _⟩ => ⟨S2x25000x512, .f32⟩
  | .hbm, ⟨4, _⟩ => ⟨S25000x4, .f32⟩
  | .hbm, ⟨5, _⟩ => ⟨S2x25000x128, .f32⟩
  | .hbm, ⟨6, _⟩ => ⟨S2x256x25x1x1000, .i32⟩
  | .hbm, ⟨7, _⟩ => ⟨S2x6400000, .i32⟩
  | .local _ .vmem, ⟨0, _⟩ => ⟨S2x1000x512, .f32⟩
  | .local _ .vmem, ⟨1, _⟩ => ⟨S2x1000x512, .f32⟩
  | .local _ .vmem, ⟨2, _⟩ => ⟨S1000x4, .f32⟩
  | .local _ .vmem, ⟨3, _⟩ => ⟨S1000x4, .f32⟩
  | .local _ .vmem, ⟨4, _⟩ => ⟨S2x1000x128, .f32⟩
  | .local _ .vmem, ⟨5, _⟩ => ⟨S2x1000x128, .f32⟩
  | .local _ .vmem, ⟨6, _⟩ => ⟨S2x256x1x1x1000, .i32⟩
  | .local _ .vmem, ⟨7, _⟩ => ⟨S2x256x1x1x1000, .i32⟩
  | _, _ => ⟨S2x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_0 : Ref sig .tc := ⟨.hbm, 5, rfl⟩
abbrev main_call0_v2_1 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S2x1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x256x1x1x1000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x100000x128 : Shape := ⟨3, ![2, 100000, 128]⟩
abbrev S100000 : Shape := ⟨1, ![100000]⟩
abbrev S100000x128x2 : Shape := ⟨3, ![100000, 128, 2]⟩
abbrev S100000x256 : Shape := ⟨2, ![100000, 256]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S25000x4x256 : Shape := ⟨3, ![25000, 4, 256]⟩
abbrev S25000x256 : Shape := ⟨2, ![25000, 256]⟩
abbrev S25000x4 : Shape := ⟨2, ![25000, 4]⟩
abbrev S25000x256x1 : Shape := ⟨3, ![25000, 256, 1]⟩
abbrev S1x1x1 : Shape := ⟨3, ![1, 1, 1]⟩
abbrev S256 : Shape := ⟨1, ![256]⟩
abbrev S1x256 : Shape := ⟨2, ![1, 256]⟩
abbrev S25000x256x2 : Shape := ⟨3, ![25000, 256, 2]⟩
abbrev S256x25000x2 : Shape := ⟨3, ![256, 25000, 2]⟩
abbrev S6400000x2 : Shape := ⟨2, ![6400000, 2]⟩
abbrev S2x6400000 : Shape := ⟨2, ![2, 6400000]⟩
abbrev S25000x128x2 : Shape := ⟨3, ![25000, 128, 2]⟩
abbrev S2x25000x128 : Shape := ⟨3, ![2, 25000, 128]⟩

abbrev nBuf : Space → Nat
  | .hbm => 93
  | .vmem => 0
  | .smem => 0
  | _ => 0

abbrev bufTy : (tb : Table) → Fin (tcTables nBuf tb) → BufTy
  | .hbm, ⟨0, _⟩ => ⟨S2x100000x128, .f32⟩
  | .hbm, ⟨1, _⟩ => ⟨S100000, .i32⟩
  | .hbm, ⟨2, _⟩ => ⟨S100000, .f32⟩
  | .hbm, ⟨3, _⟩ => ⟨S100000x128x2, .f32⟩
  | .hbm, ⟨4, _⟩ => ⟨S100000x256, .f32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S1, .i32⟩
  | .hbm, ⟨14, _⟩ => ⟨S_, .i32⟩
  | .hbm, ⟨15, _⟩ => ⟨S100000x1, .i32⟩
  | .hbm, ⟨16, _⟩ => ⟨S100000x1, .i1⟩
  | .hbm, ⟨17, _⟩ => ⟨S1x1, .i32⟩
  | .hbm, ⟨18, _⟩ => ⟨S100000x1, .i32⟩
  | .hbm, ⟨19, _⟩ => ⟨S100000x1, .i1⟩
  | .hbm, ⟨20, _⟩ => ⟨S100000x1, .i1⟩
  | .hbm, ⟨21, _⟩ => ⟨S_, .i1⟩
  | .hbm, ⟨22, _⟩ => ⟨S100000, .i1⟩
  | .hbm, ⟨23, _⟩ => ⟨S100000x256, .f32⟩
  | .hbm, ⟨24, _⟩ => ⟨S100000x256, .i1⟩
  | .hbm, ⟨25, _⟩ => ⟨S_, .f32⟩
  | .hbm, ⟨26, _⟩ => ⟨S100000x256, .f32⟩
  | .hbm, ⟨27, _⟩ => ⟨S100000x256, .f32⟩
  | .hbm, ⟨28, _⟩ => ⟨S100000x1, .f32⟩
  | .hbm, ⟨29, _⟩ => ⟨S100000x256, .f32⟩
  | .hbm, ⟨30, _⟩ => ⟨S100000x256, .f32⟩
  | .hbm, ⟨31, _⟩ => ⟨S25000x4x256, .f32⟩
  | .hbm, ⟨32, _⟩ => ⟨S25000x4x256, .i32⟩
  | .hbm, ⟨33, _⟩ => ⟨S_, .f32⟩
  | .hbm, ⟨34, _⟩ => ⟨S_, .i32⟩
  | .hbm, ⟨35, _⟩ => ⟨S25000x256, .f32⟩
  | .hbm, ⟨36, _⟩ => ⟨S25000x256, .i32⟩
  | .hbm, ⟨37, _⟩ => ⟨S25000x4, .i32⟩
  | .hbm, ⟨38, _⟩ => ⟨S_, .i32⟩
  | .hbm, ⟨39, _⟩ => ⟨S25000x256, .i32⟩
  | .hbm, ⟨40, _⟩ => ⟨S25000x256, .i1⟩
  | .hbm, ⟨41, _⟩ => ⟨S_, .i32⟩
  | .hbm, ⟨42, _⟩ => ⟨S25000x256, .i32⟩
  | .hbm, ⟨43, _⟩ => ⟨S25000x256, .i32⟩
  | .hbm, ⟨44, _⟩ => ⟨S25000x256, .i32⟩
  | .hbm, ⟨45, _⟩ => ⟨S25000x256x1, .i32⟩
  | .hbm, ⟨46, _⟩ => ⟨S1, .i32⟩
  | .hbm, ⟨47, _⟩ => ⟨S_, .i32⟩
  | .hbm, ⟨48, _⟩ => ⟨S25000x256x1, .i32⟩
  | .hbm, ⟨49, _⟩ => ⟨S25000x256x1, .i1⟩
  | .hbm, ⟨50, _⟩ => ⟨S1x1x1, .i32⟩
  | .hbm, ⟨51, _⟩ => ⟨S25000x256x1, .i32⟩
  | .hbm, ⟨52, _⟩ => ⟨S25000x256x1, .i1⟩
  | .hbm, ⟨53, _⟩ => ⟨S25000x256x1, .i1⟩
  | .hbm, ⟨54, _⟩ => ⟨S_, .i1⟩
  | .hbm, ⟨55, _⟩ => ⟨S25000x256, .i1⟩
  | .hbm, ⟨56, _⟩ => ⟨S25000x256, .i32⟩
  | .hbm, ⟨57, _⟩ => ⟨S_, .i32⟩
  | .hbm, ⟨58, _⟩ => ⟨S25000x256, .i32⟩
  | .hbm, ⟨59, _⟩ => ⟨S25000x256, .i32⟩
  | .hbm, ⟨60, _⟩ => ⟨S_, .i32⟩
  | .hbm, ⟨61, _⟩ => ⟨S25000x256, .i32⟩
  | .hbm, ⟨62, _⟩ => ⟨S25000x256, .i1⟩
  | .hbm, ⟨63, _⟩ => ⟨S_, .i32⟩
  | .hbm, ⟨64, _⟩ => ⟨S25000x256, .i32⟩
  | .hbm, ⟨65, _⟩ => ⟨S25000x256, .i32⟩
  | .hbm, ⟨66, _⟩ => ⟨S25000x256, .i32⟩
  | .hbm, ⟨67, _⟩ => ⟨S25000x256x1, .i32⟩
  | .hbm, ⟨68, _⟩ => ⟨S1, .i32⟩
  | .hbm, ⟨69, _⟩ => ⟨S_, .i32⟩
  | .hbm, ⟨70, _⟩ => ⟨S25000x256x1, .i32⟩
  | .hbm, ⟨71, _⟩ => ⟨S25000x256x1, .i1⟩
  | .hbm, ⟨72, _⟩ => ⟨S1x1x1, .i32⟩
  | .hbm, ⟨73, _⟩ => ⟨S25000x256x1, .i32⟩
  | .hbm, ⟨74, _⟩ => ⟨S25000x256x1, .i1⟩
  | .hbm, ⟨75, _⟩ => ⟨S25000x256x1, .i1⟩
  | .hbm, ⟨76, _⟩ => ⟨S_, .i1⟩
  | .hbm, ⟨77, _⟩ => ⟨S25000x256, .i1⟩
  | .hbm, ⟨78, _⟩ => ⟨S25000x256, .f32⟩
  | .hbm, ⟨79, _⟩ => ⟨S_, .f32⟩
  | .hbm, ⟨80, _⟩ => ⟨S25000x256, .f32⟩
  | .hbm, ⟨81, _⟩ => ⟨S25000x256, .f32⟩
  | .hbm, ⟨82, _⟩ => ⟨S256, .i32⟩
  | .hbm, ⟨83, _⟩ => ⟨S1x256, .i32⟩
  | .hbm, ⟨84, _⟩ => ⟨S25000x256, .i32⟩
  | .hbm, ⟨85, _⟩ => ⟨S25000x256x1, .i32⟩
  | .hbm, ⟨86, _⟩ => ⟨S25000x256x1, .i32⟩
  | .hbm, ⟨87, _⟩ => ⟨S25000x256x2, .i32⟩
  | .hbm, ⟨88, _⟩ => ⟨S256x25000x2, .i32⟩
  | .hbm, ⟨89, _⟩ => ⟨S6400000x2, .i32⟩
  | .hbm, ⟨90, _⟩ => ⟨S2x6400000, .i32⟩
  | .hbm, ⟨91, _⟩ => ⟨S25000x128x2, .f32⟩
  | .hbm, ⟨92, _⟩ => ⟨S2x25000x128, .f32⟩
  | _, _ => ⟨S2x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_call1_v0 : Ref sig .tc := ⟨.hbm, 32, rfl⟩
abbrev main_call1_cst : Ref sig .tc := ⟨.hbm, 33, rfl⟩
abbrev main_call1_c : Ref sig .tc := ⟨.hbm, 34, rfl⟩
abbrev main_call1_v1_0 : Ref sig .tc := ⟨.hbm, 35, rfl⟩
abbrev main_v7 : Ref sig .tc := ⟨.hbm, 36, rfl⟩
abbrev main_v8 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_c_4 : Ref sig .tc := ⟨.hbm, 57, rfl⟩
abbrev main_call2_v14 : Ref sig .tc := ⟨.hbm, 58, rfl⟩
abbrev main_v9 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_cst : Ref sig .tc := ⟨.hbm, 79, rfl⟩
abbrev main_call3_v14 : Ref sig .tc := ⟨.hbm, 80, rfl⟩
abbrev main_v10 : Ref sig .tc := ⟨.hbm, 81, rfl⟩
abbrev main_v11 : Ref sig .tc := ⟨.hbm, 82, rfl⟩
abbrev main_v12 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_v19 : Ref sig .tc := ⟨.hbm, 90, rfl⟩
abbrev main_v20 : Ref sig .tc := ⟨.hbm, 91, rfl⟩
abbrev main_v21 : Ref sig .tc := ⟨.hbm, 92, rfl⟩

abbrev nD : Nat := 1
abbrev τ : Topo := Topo.v7x

variable {F : FTy → Type} [FloatOps F]
-- ==== Proof.Spec.lean ====
module

public import Idealize.ShloMosaic.Lib.Pointwise

/-! The pooled graph as plain functions: of four products the first largest one, the entry that stands there, and the
numbers of the node and of the channel. -/

@[expose] public section

noncomputable section

namespace Cert.Spec

open Idealize.ShloMosaic

/-- Of two labelled numbers the larger; the first where they are equal. -/
def better {α : Type} (p q : EReal × α) : EReal × α := if p.1 < q.1 then q else p

/-- The best of four labelled numbers, the first of those that are equal. -/
def best {α : Type} (a : Fin 4 → EReal × α) : EReal × α := better (better (better (a 0) (a 1)) (a 2)) (a 3)

/-- The place of the first largest of four numbers. -/
def winner (a : Fin 4 → EReal) : Fin 4 := (best fun k => (a k, k)).2

/-- Renaming the labels renames the label of the better one. -/
theorem better_map {α β : Type} (f : α → β) (p q : EReal × α) :
    better (p.1, f p.2) (q.1, f q.2) = ((better p q).1, f (better p q).2) := by
  unfold better; dsimp only; split_ifs <;> rfl

/-- The best of four numbers carries the label of the winner. -/
theorem best_label {α : Type} (a : Fin 4 → EReal) (f : Fin 4 → α) : (best fun k => (a k, f k)).2 = f (winner a) := by
  unfold winner best
  rw [better_map f (a 0, (0 : Fin 4)) (a 1, 1), better_map f _ (a 2, (2 : Fin 4)), better_map f _ (a 3, (3 : Fin 4))]

/-- The arrays' shapes. -/
abbrev Sx : Shape := ⟨3, ![2, 100000, 128]⟩
abbrev Sw : Shape := ⟨1, ![100000]⟩
abbrev Sval : Shape := ⟨3, ![2, 25000, 128]⟩
abbrev Sidx : Shape := ⟨2, ![2, 6400000]⟩

/-- The node at place `k` of group `n`. -/
def node (n : Fin 25000) (k : Fin 4) : Fin 100000 := ⟨4 * n.val + k.val, by omega⟩

variable (x : Sx.Idx → EReal) (w : Sw.Idx → EReal)

/-- The place, in group `n`, of the largest product of entry and weight, at batch `b` and channel `v`. -/
def place (b : Fin 2) (n : Fin 25000) (v : Fin 128) : Fin 4 :=
  winner fun k => x (ix3 b (node n k) v) * w (ix1 (node n k))

/-- The entry at that place. -/
def pooled : Sval.Idx → EReal := fun j => x (ix3 (j 0) (node (j 1) (place x w (j 0) (j 1) (j 2))) (j 2))

/-- Both rows of numbers: column `q·25000 + n` holds the node found for group `n`, and below it `q`, which counts batch
within channel. -/
def numbers (h : Fin 2) (q : Fin 256) (n : Fin 25000) : BitVec 32 :=
  if h = 0 then
    BitVec.ofNat 32 (node n (place x w ⟨q.val % 2, by omega⟩ n ⟨q.val / 2, by omega⟩)).val
  else BitVec.ofNat 32 q.val

/-- The same as one array. -/
def index : Sidx.Idx → BitVec 32 := fun j =>
  numbers x w (j 0) ⟨(j 1).val / 25000, by have h : (j 1).val < 6400000 := (j 1).isLt; omega⟩
    ⟨(j 1).val % 25000, by omega⟩

end Cert.Spec
-- ==== Proof.KernelBlock.lean ====
module

public import proofs.«01_k».proof.Proof.Gen.KernelIdeal.Skeleton
public import proofs.«01_k».proof.Proof.Spec
public import Idealize.ShloMosaic.PureOps.Ideal.Laws
public import Idealize.ShloMosaic.Lib.Pipeline.Value

/-! What one grid point of the kernel computes from its block of entries and its block of weights. -/

@[expose] public section

set_option maxRecDepth 16384

noncomputable section

namespace Cert.Kern

open Cert.KernelIdeal Cert.KernelIdeal.Gen
open Idealize.ShloMosaic Idealize.ShloMosaic.TcCoe Cert.Spec

/-- The lane of channel `v` at place `k`. -/
def lane (k : Fin 4) (v : Fin 128) : Fin 512 := ⟨128 * k.val + v.val, by omega⟩

/-- Three compares, each against the largest so far, with the label of whichever wins, pick the winner's label. -/
theorem chain {α : Type} (a : Fin 4 → EReal) (f : Fin 4 → α) (m1 m2 : EReal) (c1 c2 c3 : BitVec 1)
    (h1 : c1 = FloatOps.cmpf (F := Ideal) (φ := .f32) .ogt (a 1) (a 0)) (g1 : m1 = Scalar.select c1 (a 1) (a 0))
    (h2 : c2 = FloatOps.cmpf (F := Ideal) (φ := .f32) .ogt (a 2) m1) (g2 : m2 = Scalar.select c2 (a 2) m1)
    (h3 : c3 = FloatOps.cmpf (F := Ideal) (φ := .f32) .ogt (a 3) m2) :
    Scalar.select c3 (f 3) (Scalar.select c2 (f 2) (Scalar.select c1 (f 1) (f 0))) = f (winner a) := by
  have sel (x y : EReal) : FloatOps.cmpf (F := Ideal) (φ := .f32) .ogt x y = if y < x then 1#1 else 0#1 := by
    rw [Ideal.cmpf_def]
    unfold Ideal.cmp
    by_cases h : y < x <;> simp [h]
  have pick {β : Type} (x y : EReal) (p q : β) :
      Scalar.select (if y < x then 1#1 else 0#1) p q = if y < x then p else q := by
    by_cases h : y < x
    · rw [if_pos h, if_pos h]; rfl
    · rw [if_neg h, if_neg h]; rfl
  have step (m x : EReal) (p q : α) : better (m, p) (x, q) = (if m < x then x else m, if m < x then q else p) := by
    unfold better; split_ifs <;> rfl
  rw [← best_label a f]
  subst h1 g1 h2 g2 h3
  simp only [sel, pick, best, step]

/-- A column of weights spread over batch and channel. -/
theorem spread (v : Vec Ideal S1000x1 .f32) (b : Fin 2) (r : Fin 1000) (c : Fin 128) :
    broadcastTo S2x1000x128 (shapeCast S1x1000x1 (shapeCast S1000x1 v shapeCasts_S1000x1_S1000x1) shapeCasts_S1000x1_S1x1000x1)
      broadcasts_S1x1000x1_S2x1000x128 (ix3 b r c) = v (ix2 r (0 : Fin 1)) := by
  rw [broadcastTo_apply _ _ (ix3 b r c) (ix3 (0 : Fin 1) r (0 : Fin 1)) (by intro a; fin_cases a <;> rfl),
    shapeCast_apply _ _ (ix3 (0 : Fin 1) r (0 : Fin 1)) (ix2 r (0 : Fin 1))
      (by rw [Shape.rowMajor_val_two, Shape.rowMajor_val_three]
          show r.val * 1 + 0 = (0 * 1000 + r.val) * 1 + 0
          omega),
    shapeCast_apply _ _ (ix2 r (0 : Fin 1)) (ix2 r (0 : Fin 1)) rfl]

/-- The block of entries, cast to its own shape. -/
theorem pay3_eq (x : Vec Ideal S2x1000x512 .f32) (i : S2x1000x512.Idx) : k0_pay3 x i = x i := by
  unfold k0_pay3
  exact shapeCast_apply _ _ i i rfl

/-- The slice of the block that holds place `k`. -/
theorem slice_apply (x : Vec Ideal S2x1000x512 .f32) (k : Fin 4) (h : S2x1000x512.Slices ![0, 0, 128 * k.val] S2x1000x128) (b : Fin 2)
    (r : Fin 1000) (v : Fin 128) :
    extractStridedSlice S2x1000x128 ![0, 0, 128 * k.val] (k0_pay3 x) h (ix3 b r v) = x (ix3 b r (lane k v)) := by
  rw [extractStridedSlice_apply _ _ _ (ix3 b r v) (ix3 b r (lane k v)) (by
    intro a; fin_cases a
    · exact (Nat.zero_add _).symm
    · exact (Nat.zero_add _).symm
    · rfl), pay3_eq]

/-- The first slice. -/
theorem pay4_apply (x : Vec Ideal S2x1000x512 .f32) (b : Fin 2) (r : Fin 1000) (v : Fin 128) :
    k0_pay4 x (ix3 b r v) = x (ix3 b r (lane 0 v)) := slice_apply x 0 (by decide) b r v

/-- The second slice. -/
theorem pay6_apply (x : Vec Ideal S2x1000x512 .f32) (b : Fin 2) (r : Fin 1000) (v : Fin 128) :
    k0_pay6 x (ix3 b r v) = x (ix3 b r (lane 1 v)) := slice_apply x 1 (by decide) b r v

/-- The third slice. -/
theorem pay10_apply (x : Vec Ideal S2x1000x512 .f32) (b : Fin 2) (r : Fin 1000) (v : Fin 128) :
    k0_pay10 x (ix3 b r v) = x (ix3 b r (lane 2 v)) := slice_apply x 2 (by decide) b r v

/-- The fourth slice. -/
theorem pay13_apply (x : Vec Ideal S2x1000x512 .f32) (b : Fin 2) (r : Fin 1000) (v : Fin 128) :
    k0_pay13 x (ix3 b r v) = x (ix3 b r (lane 3 v)) := slice_apply x 3 (by decide) b r v

section
variable (x : Vec Ideal S2x1000x512 .f32) (w : Fin 4 → Vec Ideal S1000x1 .f32)

/-- The product at place `k` of a group. -/
def blockProd (b : Fin 2) (r : Fin 1000) (v : Fin 128) (k : Fin 4) : EReal :=
  x (ix3 b r (lane k v)) * w k (ix2 r (0 : Fin 1))

/-- The place of the first largest product of a group. -/
def blockPlace (b : Fin 2) (r : Fin 1000) (v : Fin 128) : Fin 4 := winner (blockProd x w b r v)

variable (b : Fin 2) (r : Fin 1000) (v : Fin 128)

/-- The first product. -/
theorem pay5_apply : k0_pay5 x (w 0) (ix3 b r v) = blockProd x w b r v 0 := by
  unfold k0_pay5 blockProd
  exact congrArg₂ (fun p q : EReal => p * q) (pay4_apply x b r v) (spread (w 0) b r v)

/-- The second product. -/
theorem pay7_apply : k0_pay7 x (w 1) (ix3 b r v) = blockProd x w b r v 1 := by
  unfold k0_pay7 blockProd
  exact congrArg₂ (fun p q : EReal => p * q) (pay6_apply x b r v) (spread (w 1) b r v)

/-- The third product. -/
theorem pay11_apply : k0_pay11 x (w 2) (ix3 b r v) = blockProd x w b r v 2 := by
  unfold k0_pay11 blockProd
  exact congrArg₂ (fun p q : EReal => p * q) (pay10_apply x b r v) (spread (w 2) b r v)

/-- The second product is above the first. -/
theorem pay8_apply : k0_pay8 x (w 0) (w 1) (ix3 b r v)
    = FloatOps.cmpf (F := Ideal) (φ := .f32) .ogt (blockProd x w b r v 1) (blockProd x w b r v 0) :=
  congrArg₂ (fun p q => FloatOps.cmpf (F := Ideal) (φ := .f32) .ogt p q) (pay7_apply x w b r v) (pay5_apply x w b r v)

/-- The larger of the first two. -/
theorem pay9_apply : k0_pay9 x (w 0) (w 1) (ix3 b r v)
    = Scalar.select (k0_pay8 x (w 0) (w 1) (ix3 b r v)) (blockProd x w b r v 1) (blockProd x w b r v 0) :=
  congrArg₂ (fun p q => Scalar.select (k0_pay8 x (w 0) (w 1) (ix3 b r v)) p q) (pay7_apply x w b r v) (pay5_apply x w b r v)

/-- The third product is above both. -/
theorem pay12_apply : k0_pay12 x (w 0) (w 1) (w 2) (ix3 b r v)
    = FloatOps.cmpf (F := Ideal) (φ := .f32) .ogt (blockProd x w b r v 2) (k0_pay9 x (w 0) (w 1) (ix3 b r v)) :=
  congrArg (fun p => FloatOps.cmpf (F := Ideal) (φ := .f32) .ogt p (k0_pay9 x (w 0) (w 1) (ix3 b r v))) (pay11_apply x w b r v)

/-- The fourth product is above the largest of the first three. -/
theorem pay14_apply : k0_pay14 x (w 0) (w 1) (w 2) (w 3) (ix3 b r v)
    = FloatOps.cmpf (F := Ideal) (φ := .f32) .ogt (blockProd x w b r v 3)
        (Scalar.select (k0_pay12 x (w 0) (w 1) (w 2) (ix3 b r v)) (blockProd x w b r v 2) (k0_pay9 x (w 0) (w 1) (ix3 b r v))) := by
  have h3 : mulf (k0_pay13 x) (broadcastTo S2x1000x128 (shapeCast S1x1000x1 (shapeCast S1000x1 (w 3) shapeCasts_S1000x1_S1000x1)
      shapeCasts_S1000x1_S1x1000x1) broadcasts_S1x1000x1_S2x1000x128) (ix3 b r v) = blockProd x w b r v 3 :=
    congrArg₂ (fun p q : EReal => p * q) (pay13_apply x b r v) (spread (w 3) b r v)
  rw [← h3, ← pay11_apply]
  rfl

/-- What the point writes to its block of the first result: the entry at the place found. -/
theorem pay15_apply : k0_pay15 x (w 0) (w 1) (w 2) (w 3) (ix3 b r v) = x (ix3 b r (lane (blockPlace x w b r v) v)) := by
  refine Eq.trans ?_ (chain (blockProd x w b r v) (fun k => x (ix3 b r (lane k v))) _ _ _ _ _ (pay8_apply x w b r v)
    (pay9_apply x w b r v) (pay12_apply x w b r v) rfl (pay14_apply x w b r v))
  rw [← pay4_apply x b r v, ← pay6_apply x b r v, ← pay10_apply x b r v, ← pay13_apply x b r v]
  rfl

/-- The place found, as a word. -/
theorem pay16_apply : k0_pay16 x (w 0) (w 1) (w 2) (w 3) (ix3 b r v) = BitVec.ofNat 32 (blockPlace x w b r v).val := by
  refine Eq.trans ?_ (chain (blockProd x w b r v) (fun k => BitVec.ofNat 32 k.val) _ _ _ _ _ (pay8_apply x w b r v)
    (pay9_apply x w b r v) (pay12_apply x w b r v) rfl (pay14_apply x w b r v))
  rfl

end

/-- What the point writes to the first half of its block of the second result: the number of the node at the place
found. -/
theorem pay1_apply (t : Nat) (ht : t < 25) (p : IVec S2x1000x128 32) (k : Fin 2 → Fin 1000 → Fin 128 → Fin 4)
    (hp : ∀ b r v, p (ix3 b r v) = BitVec.ofNat 32 (k b r v).val) (h i j : Fin 1) (q : Fin 256) (r : Fin 1000) :
    k0_pay1 (BitVec.ofNat 32 t) p (ix5 h q i j r)
      = BitVec.ofNat 32 (4 * (1000 * t + r.val) + (k ⟨q.val % 2, by omega⟩ r ⟨q.val / 2, by omega⟩).val) := by
  unfold k0_pay1
  obtain rfl : h = 0 := Subsingleton.elim _ _
  obtain rfl : i = 0 := Subsingleton.elim _ _
  obtain rfl : j = 0 := Subsingleton.elim _ _
  dsimp only
  rw [shapeCast_apply _ _ (ix5 (0 : Fin 1) q (0 : Fin 1) (0 : Fin 1) r) (ix2 q r)
    (by rw [Shape.rowMajor_val_two, Shape.rowMajor_val_five]
        show q.val * 1000 + r.val = (((0 * 256 + q.val) * 1 + 0) * 1 + 0) * 1000 + r.val
        omega),
    shapeCast_apply _ _ (ix2 q r) (ix3 (⟨q.val / 2, by omega⟩ : Fin 128) (⟨q.val % 2, by omega⟩ : Fin 2) r)
    (by rw [Shape.rowMajor_val_two, Shape.rowMajor_val_three]
        show (q.val / 2 * 2 + q.val % 2) * 1000 + r.val = q.val * 1000 + r.val
        omega),
    transpose_apply _ _ _ _ (ix3 (⟨q.val % 2, by omega⟩ : Fin 2) r (⟨q.val / 2, by omega⟩ : Fin 128))
      (by intro a; fin_cases a <;> rfl)]
  show 4#32 * (BitVec.ofNat 32 t * 1000#32 + iota .tc S2x1000x128 32 [1] iota_S2x1000x128_d1_w32 _) + p _ = _
  rw [hp, iota_single_apply]
  generalize k _ _ _ = z
  show 4#32 * (BitVec.ofNat 32 t * 1000#32 + BitVec.ofNat 32 r.val) + BitVec.ofNat 32 z.val = _
  apply BitVec.eq_of_toNat_eq
  simp only [BitVec.toNat_add, BitVec.toNat_mul, BitVec.toNat_ofNat]
  omega

/-- What it writes to the second half: the channel's number. -/
theorem pay2_apply (h i j : Fin 1) (q : Fin 256) (r : Fin 1000) :
    k0_pay2 (ix5 h q i j r) = BitVec.ofNat 32 q.val := by
  unfold k0_pay2
  obtain rfl : h = 0 := Subsingleton.elim _ _
  obtain rfl : i = 0 := Subsingleton.elim _ _
  obtain rfl : j = 0 := Subsingleton.elim _ _
  dsimp only
  rw [shapeCast_apply _ _ (ix5 (0 : Fin 1) q (0 : Fin 1) (0 : Fin 1) r) (ix2 q r)
    (by rw [Shape.rowMajor_val_two, Shape.rowMajor_val_five]
        show q.val * 1000 + r.val = (((0 * 256 + q.val) * 1 + 0) * 1 + 0) * 1000 + r.val
        omega), iota_single_apply]
  rfl

end Cert.Kern
-- ==== Proof.KernelEntry.lean ====
module

public import proofs.«01_k».proof.Proof.Gen.KernelIdeal.Frame
public import proofs.«01_k».proof.Proof.KernelBlock
public import Idealize.ShloMosaic.Lib.Pipeline.ValueKit

/-! What the kernel's grid points read: the blocks of the two argument arrays, in the arguments' own indices. -/

@[expose] public section

set_option maxRecDepth 16384

noncomputable section

namespace Cert.Kern

open Cert.KernelIdeal Cert.KernelIdeal.Gen
open Idealize.ShloMosaic Idealize.ShloMosaic.TcCoe Cert.Spec

variable (m : (ℓ : Loc nD τ sig) → Buf (Elt Ideal) ℓ) (c : Dev nD)

/-- The entries as launched. -/
def entries : Sx.Idx → EReal := m ((c.tc : Thread nD τ).loc main_arg0)
/-- The weights as launched. -/
def weights : Sw.Idx → EReal := m ((c.tc : Thread nD τ).loc main_arg2)

/-- The array behind the first window: the entries, four nodes side by side. -/
theorem V_rows : (V m c main_call0_v0 : Vec Ideal S2x25000x512 .f32)
    = shapeCast S2x25000x512 (entries m c) shapeCasts_S2x100000x128_S2x25000x512 := by
  unfold entries
  show StableHlo.after _ _ _ = _
  simp only [hostOps0, List.flatten_cons, List.flatten_nil, List.append_nil]
  after_results_simp
  rfl

/-- The array behind the second window: the weights, four to a row. -/
theorem V_weights : (V m c main_call0_v1 : Vec Ideal S25000x4 .f32)
    = shapeCast S25000x4 (weights m c) shapeCasts_S100000_S25000x4 := by
  unfold weights
  show StableHlo.after _ _ _ = _
  simp only [hostOps0, List.flatten_cons, List.flatten_nil, List.append_nil]
  after_results_simp
  rfl

/-- Group `r` of grid point `t`. -/
def group (t : Fin cfg0.N) (r : Fin 1000) : Fin 25000 :=
  ⟨1000 * t.val + r.val, by have : t.val < 25 := lt_of_lt_of_eq t.isLt Gen.N_0; omega⟩

theorem index_0 : ∀ t : Fin cfg0.N, win0_0.index t = ![0, t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, t.val, 0] := (by decide +kernel : ∀ t : Fin grid0.N, _)
theorem index_3 : ∀ t : Fin cfg0.N, win0_3.index t = ![0, 0, t.val, 0, 0] := (by decide +kernel : ∀ t : Fin grid0.N, _)

/-- The entry at lane `128·k + v` of group `r` is node `k`'s entry at channel `v`. -/
theorem entry_at (t : Fin cfg0.N) (b : Fin 2) (r : Fin 1000) (k : Fin 4) (v : Fin 128) :
    (iblk m c 0 t : Vec Ideal S2x1000x512 .f32) (ix3 b r (lane k v)) = entries m c (ix3 b (node (group t r) k) v) := by
  have e : ((win0_0.blk t).view.emb (ix3 b r (lane k v)) : S2x25000x512.Idx) = ix3 b (group t r) (lane k v) := by
    unfold group
    blk_ext [index_0]
  blk_simp [iblk]
  refine (congrArg (V m c main_call0_v0 : Vec Ideal S2x25000x512 .f32) e).trans ?_
  rw [V_rows]
  exact shapeCast_apply _ _ _ (ix3 b (node (group t r) k) v) (by
    rw [Shape.rowMajor_val_three, Shape.rowMajor_val_three]
    show (b.val * 100000 + (4 * (group t r).val + k.val)) * 128 + v.val = (b.val * 25000 + (group t r).val) * 512 + (128 * k.val + v.val)
    omega)

/-- The weight in column `k` of group `r` is node `k`'s weight. -/
theorem weight_at (t : Fin cfg0.N) (r : Fin 1000) (k : Fin 4) :
    (iblk m c 1 t : Vec Ideal S1000x4 .f32) (ix2 r k) = weights m c (ix1 (node (group t r) k)) := by
  have e : ((win0_1.blk t).view.emb (ix2 r k) : S25000x4.Idx) = ix2 (group t r) k := by
    unfold group
    blk_ext [index_1]
  blk_simp [iblk]
  refine (congrArg (V m c main_call0_v1 : Vec Ideal S25000x4 .f32) e).trans ?_
  rw [V_weights]
  exact shapeCast_apply _ _ _ (ix1 (node (group t r) k)) (by
    rw [Shape.rowMajor_val_one, Shape.rowMajor_val_two]
    show 4 * (group t r).val + k.val = (group t r).val * 4 + k.val
    omega)

/-- The four columns of a block of weights. -/
def columns (X : Vec Ideal S1000x4 .f32) : Fin 4 → Vec Ideal S1000x1 .f32 :=
  ![View.ld X r0_1, View.ld X r0_2, View.ld X r0_3, View.ld X r0_4]

/-- A load of column `k` of a four-column block. -/
theorem column_ld (X : Vec Ideal S1000x4 .f32) (k : Fin 4) (inb : ∀ a, (![0, k.val] : Fin 2 → Nat) a + S1000x1.size a ≤ S1000x4.size a)
    (r : Fin 1000) : View.ld X (Rect.unit (s := S1000x4) ![0, k.val] S1000x1.size inb) (ix2 r (0 : Fin 1)) = X (ix2 r k) := by
  refine View.ld_unit_apply_of X _ _ inb _ (ix2 r k) fun a => ?_
  match a with
  | ⟨0, _⟩ => exact (Nat.zero_add _).symm
  | ⟨1, _⟩ => rfl

/-- Column `k` at group `r`. -/
theorem columns_apply (X : Vec Ideal S1000x4 .f32) (r : Fin 1000) (k : Fin 4) : columns X k (ix2 r (0 : Fin 1)) = X (ix2 r k) := by
  match k with
  | 0 => exact column_ld X 0 inb_S1000x4_S1000x1_0_0 r
  | 1 => exact column_ld X 1 inb_S1000x4_S1000x1_0_1 r
  | 2 => exact column_ld X 2 inb_S1000x4_S1000x1_0_2 r
  | 3 => exact column_ld X 3 inb_S1000x4_S1000x1_0_3 r

/-- The block of entries a grid point loads is the whole block. -/
theorem entries_ld (X : Vec Ideal S2x1000x512 .f32) : View.ld X r0_0 = X :=
  View.ld_unit_lit _ _ (by decide)

/-- The place found at a group of a grid point is the place found in the arguments. -/
theorem place_at (t : Fin cfg0.N) (b : Fin 2) (r : Fin 1000) (v : Fin 128) :
    blockPlace (iblk m c 0 t) (columns (iblk m c 1 t)) b r v = place (entries m c) (weights m c) b (group t r) v := by
  unfold blockPlace place
  refine congrArg winner (funext fun k => ?_)
  unfold blockProd
  exact congrArg₂ (fun p q : EReal => p * q) (entry_at m c t b r k v)
    ((columns_apply (iblk m c 1 t) r k).trans (weight_at m c t r k))

end Cert.Kern
-- ==== Proof.KernelArray.lean ====
module

public import proofs.«01_k».proof.Proof.KernelEntry

/-! What the kernel's two result arrays hold after the run. -/

@[expose] public section

set_option maxRecDepth 16384

noncomputable section

namespace Cert.Kern

open Cert.KernelIdeal Cert.KernelIdeal.Gen
open Idealize.ShloMosaic Idealize.ShloMosaic.TcCoe Cert.Spec

variable (m : (ℓ : Loc nD τ sig) → Buf (Elt Ideal) ℓ) (c : Dev nD)

/-- The block of the first result that grid point `t` leaves. -/
theorem out2_at (t : Fin cfg0.N) (b : Fin 2) (r : Fin 1000) (v : Fin 128) :
    out0_2 (grid0.coords t) (iblk m c 0 t) (iblk m c 1 t) (ix3 b r v)
      = pooled (entries m c) (weights m c) (ix3 b (group t r) v) := by
  unfold out0_2
  rw [View.canon_cons_unit_lit _ _ _ (by decide), entries_ld]
  refine (pay15_apply (iblk m c 0 t) (columns (iblk m c 1 t)) b r v).trans ?_
  rw [place_at]
  exact entry_at m c t b r _ v

/-- The first result array. -/
theorem array_2 : (dats m 0 c).arrAt 2 cfg0.N = pooled (entries m c) (weights m c) := by
  refine (dats m 0 c).arrAt_eq_of_covers 2 _ (by decide +kernel) fun t hf y => ?_
  blk_simp
  rw [after0_2]
  obtain ⟨b, r, v, rfl⟩ : ∃ (b : Fin 2) (r : Fin 1000) (v : Fin 128), y = ix3 b r v := ⟨y 0, y 1, y 2, eq_ix3 y⟩
  have e : ((win0_2.blk t).view.emb (ix3 b r v) : Sval.Idx) = ix3 b (group t r) v := by
    unfold group
    blk_ext [index_2]
  exact (out2_at m c t b r v).trans (congrArg (pooled (entries m c) (weights m c)) e).symm

/-- The second result before its last reshape: half, channel and batch, block of groups, group in the block. -/
def blocks (x : Sx.Idx → EReal) (w : Sw.Idx → EReal) : S2x256x25x1x1000.Idx → BitVec 32 := fun j =>
  numbers x w (j 0) (j 1) ⟨1000 * (j 2).val + (j 4).val, by
    have h2 : (j 2).val < 25 := (j 2).isLt
    have h4 : (j 4).val < 1000 := (j 4).isLt
    omega⟩

/-- The point's number is its one coordinate. -/
theorem coord_0 : ∀ t : Fin cfg0.N, ((grid0.coords t) 0).val = t.val := (by decide +kernel : ∀ t : Fin grid0.N, _)

/-- The block of the second result that grid point `t` leaves. -/
theorem out3_at (t : Fin cfg0.N) (h : Fin 2) (q : Fin 256) (r : Fin 1000) :
    out0_3 (grid0.coords t) (iblk m c 0 t) (iblk m c 1 t) (ix5 h q (0 : Fin 1) (0 : Fin 1) r)
      = numbers (entries m c) (weights m c) h q (group t r) := by
  have ht : t.val < 25 := lt_of_lt_of_eq t.isLt Gen.N_0
  rw [show out0_3 (grid0.coords t) (iblk m c 0 t) (iblk m c 1 t) = View.canon [⟨r0_7, k0_pay2⟩,
      ⟨r0_6, k0_pay1 (BitVec.ofNat 32 t.val) (k0_pay16 (iblk m c 0 t) (columns (iblk m c 1 t) 0) (columns (iblk m c 1 t) 1) (columns (iblk m c 1 t) 2)
        (columns (iblk m c 1 t) 3))⟩] by unfold out0_3; rw [entries_ld, coord_0]; rfl]
  unfold numbers
  canon_tiles x hx
  · obtain ⟨h', q', i', j', r', rfl⟩ : ∃ (h' : Fin 1) (q' : Fin 256) (i' j' : Fin 1) (r' : Fin 1000), x = ix5 h' q' i' j' r' :=
      ⟨x 0, x 1, x 2, x 3, x 4, eq_ix5 x⟩
    have eh : h.val = 1 + h'.val := hx0
    obtain rfl : q = q' := Fin.ext hx1
    rw [pay2_apply, if_neg (by rintro rfl; rw [Fin.val_zero] at eh; omega)]
  · obtain ⟨h', q', i', j', r', rfl⟩ : ∃ (h' : Fin 1) (q' : Fin 256) (i' j' : Fin 1) (r' : Fin 1000), x = ix5 h' q' i' j' r' :=
      ⟨x 0, x 1, x 2, x 3, x 4, eq_ix5 x⟩
    rw [pay1_apply t.val ht _ _ (fun b r v => pay16_apply (iblk m c 0 t) (columns (iblk m c 1 t)) b r v), place_at]
    obtain rfl : h = 0 := Fin.ext (Nat.lt_one_iff.mp (lt_of_eq_of_lt hx0 h'.isLt))
    obtain rfl : q = q' := Fin.ext hx1
    obtain rfl : r = r' := Fin.ext hx4
    rw [if_pos rfl]
    rfl

/-- The second result array, before its last reshape. -/
theorem array_3 : (dats m 0 c).arrAt 3 cfg0.N = blocks (entries m c) (weights m c) := by
  refine (dats m 0 c).arrAt_eq_of_covers 3 _ (by decide +kernel) fun t hf y => ?_
  blk_simp
  rw [after0_3]
  obtain ⟨h, q, i, j, r, rfl⟩ : ∃ (h : Fin 2) (q : Fin 256) (i j : Fin 1) (r : Fin 1000), y = ix5 h q i j r :=
    ⟨y 0, y 1, y 2, y 3, y 4, eq_ix5 y⟩
  obtain rfl : i = 0 := Subsingleton.elim _ _
  obtain rfl : j = 0 := Subsingleton.elim _ _
  have ht : t.val < 25 := lt_of_lt_of_eq t.isLt Gen.N_0
  have e : ((win0_3.blk t).view.emb (ix5 h q (0 : Fin 1) (0 : Fin 1) r) : S2x256x25x1x1000.Idx) = ix5 h q (⟨t.val, ht⟩ : Fin 25) (0 : Fin 1) r := by
    blk_ext [index_3]
  exact (out3_at m c t h q r).trans (congrArg (blocks (entries m c) (weights m c)) e).symm

end Cert.Kern
-- ==== Proof.KernelRun.lean ====
module

public import proofs.«01_k».proof.Proof.KernelArray

/-! The kernel's run: both results as the plain functions of the arguments. -/

@[expose] public section

set_option maxRecDepth 16384

noncomputable section

namespace Cert.Kern

open Cert.KernelIdeal Cert.KernelIdeal.Gen
open Idealize.ShloMosaic Idealize.ShloMosaic.TcCoe Cert.Spec Idealize.SL.Sem

variable (m : (ℓ : Loc nD τ sig) → Buf (Elt Ideal) ℓ) (ρ : Dev nD → PrngReg)

/-- The last reshape lays the blocks of groups out one after another. -/
theorem reshape_blocks (x : Sx.Idx → EReal) (w : Sw.Idx → EReal) :
    shapeCast S2x6400000 (blocks x w) shapeCasts_S2x256x25x1x1000_S2x6400000 = index x w := by
  funext j
  obtain ⟨a, p, rfl⟩ : ∃ (a : Fin 2) (p : Fin 6400000), j = ix2 a p := ⟨j 0, j 1, eq_ix2 j⟩
  have hq : p.val / 25000 < 256 := by omega
  have hi : p.val % 25000 / 1000 < 25 := by omega
  have hr : p.val % 1000 < 1000 := by omega
  refine (shapeCast_apply _ _ (ix2 a p) (ix5 a (⟨p.val / 25000, hq⟩ : Fin 256) (⟨p.val % 25000 / 1000, hi⟩ : Fin 25) (0 : Fin 1)
    (⟨p.val % 1000, hr⟩ : Fin 1000)) (by
      rw [Shape.rowMajor_val_two, Shape.rowMajor_val_five]
      show (((a.val * 256 + p.val / 25000) * 25 + p.val % 25000 / 1000) * 1 + 0) * 1000 + p.val % 1000 = a.val * 6400000 + p.val
      omega)).trans ?_
  exact congrArg (numbers x w a ⟨p.val / 25000, hq⟩) (Fin.ext (by
    show 1000 * (p.val % 25000 / 1000) + p.val % 1000 = p.val % 25000
    omega))

/-- The pipeline's windows stage different arrays. -/
theorem arrays_differ : Function.Injective (Pipeline.arrRef spec0) := by
  intro a b; revert a b; decide

/-- The second result after the reshape that follows the launch. -/
theorem tail_index (c : Dev nD) :
    Pipeline.afterTail₀ cfgs (dats m) 0 (V0 m) [hostOps1] c main_v0_1 = index (entries m c) (weights m c) := by
  unfold Pipeline.afterTail₀
  simp only [hostOps1, List.flatten_cons, List.flatten_nil, List.append_nil]
  after_results_simp
  have e := Pipeline.withArrays_arr spec0 arrays_differ c (V0 m c) (fun w => (dats m 0 c).arrAt w (cfgs 0).N) 3
  exact (congrArg (fun X : S2x256x25x1x1000.Idx → BitVec 32 => shapeCast S2x6400000 X shapeCasts_S2x256x25x1x1000_S2x6400000)
    (e.trans (array_3 m c))).trans (reshape_blocks _ _)

/-- Every run of the kernel ends with both results as stated, the arguments unchanged and the counters at zero. -/
theorem run : θ_run defs (onTc (τ := τ) (main (F := Ideal))) ⟨m, fun _ => 0, ρ⟩ (fun r => (∀ c : Dev nD,
      (r.2.mem ((c.tc : Thread nD τ).loc main_v0_0) = pooled (entries m c) (weights m c)
      ∧ r.2.mem ((c.tc : Thread nD τ).loc main_v0_1) = index (entries m c) (weights m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨⟨((h.1 c).1 2).trans (array_2 m c),
      ((h.1 c).2 main_v0_1 (Pipeline.mem_restRefs_of main_v0_1 (by decide) (by decide))).trans (tail_index m c)⟩,
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c)⟩, h.2⟩)
    (run_main_quiescent m ρ)

end Cert.Kern
-- ==== Proof.RefOps.lean ====
module

public import proofs.«01_k».proof.Defs
public import proofs.«01_k».proof.Proof.Gen.ReferenceIdeal
public import Idealize.ShloMosaic.Lib.StableHlo.Run
public import Idealize.ShloMosaic.Lib.Claim
public import Idealize.ShloMosaic.Lib.Quiescent

/-! The reference's run: its operations as one straight line, cut into eight stages. -/

@[expose] public section

set_option maxRecDepth 16384

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F]

/-- The rows: the first argument transposed and reshaped to one row of 256 numbers per node. -/
abbrev opsRows : List (HloOp τ sig (Elt F)) :=
  [ unary main_arg0 main_v0 ((transpose S100000x128x2 [1, 2, 0] · transposes_S2x100000x128_S100000x128x2_1_2_0) : (⟨S2x100000x128, .f32⟩ : BufTy).Contents (Elt F) → (⟨S100000x128x2, .f32⟩ : BufTy).Contents (Elt F)),
    reshape main_v0 main_v1 (rfl : (.f32 : EltTy) = .f32) shapeCasts_S100000x128x2_S100000x256 ]

/-- The gather of those rows at the second argument. -/
abbrev opsTake : List (HloOp τ sig (Elt F)) :=
  [ TRef.nullary main_call0.c (constantI S_ 32 0#32),
    TRef.unary main_call0.c main_call0.v0 (broadcastInDim S100000 ![] bcast_S_S100000),
    TRef.binary (.of main_arg1) main_call0.v0 main_call0.v1 (cmpi .slt),
    TRef.nullary main_call0.c_0 (constantI S_ 32 100000#32),
    TRef.unary main_call0.c_0 main_call0.v2 (broadcastInDim S100000 ![] bcast_S_S100000),
    TRef.binary (.of main_arg1) main_call0.v2 main_call0.v3 addi,
    TRef.ternary main_call0.v1 main_call0.v3 (.of main_arg1) main_call0.call0.v0 select,
    TRef.unary main_call0.call0.v0 main_call0.v5 (broadcastInDim S100000x1 ![0] bcast_S100000_S100000x1_0),
    TRef.nullary main_call0.c_1 (constantI S1 32 99999#32),
    TRef.nullary main_call0.c_2 (constantI S_ 32 0#32),
    TRef.unary main_call0.c_2 main_call0.v6 (broadcastInDim S100000x1 ![] bcast_S_S100000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S100000x1 ![0, 1] bcast_S1x1_S100000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100000x1_S100000_d1 h_S_),
    TRef.binary (.of main_v1) main_call0.v5 main_call0.v13 (fun x i => Host.gather gather_S100000x256_S100000x1_S100000x256_1_0_n_n_0_1_1256 x i),
    TRef.unary main_call0.v12 main_call0.v14 (broadcastInDim S100000x256 ![0] bcast_S100000_S100000x256_0),
    TRef.nullary main_call0.cst (constant S_ .f32 0x7FC00000#32),
    TRef.unary main_call0.cst main_call0.v15 (broadcastInDim S100000x256 ![] bcast_S_S100000x256),
    TRef.ternary main_call0.v14 main_call0.v13 main_call0.v15 main_call0.v16 select ]

/-- The weights broadcast along the rows, the product, and its reshape to groups of four rows. -/
abbrev opsWeigh : List (HloOp τ sig (Elt F)) :=
  [ unary main_arg2 main_v3 (broadcastInDim S100000x1 ![0] bcast_S100000_S100000x1_0 : (⟨S100000, .f32⟩ : BufTy).Contents (Elt F) → (⟨S100000x1, .f32⟩ : BufTy).Contents (Elt F)),
    unary main_v3 main_v4 (broadcastInDim S100000x256 ![0, 1] bcast_S100000x1_S100000x256_0_1 : (⟨S100000x1, .f32⟩ : BufTy).Contents (Elt F) → (⟨S100000x256, .f32⟩ : BufTy).Contents (Elt F)),
    binary main_v4 main_v2 main_v5 (mulf : (⟨S100000x256, .f32⟩ : BufTy).Contents (Elt F) → (⟨S100000x256, .f32⟩ : BufTy).Contents (Elt F) → (⟨S100000x256, .f32⟩ : BufTy).Contents (Elt F)),
    reshape main_v5 main_v6 (rfl : (.f32 : EltTy) = .f32) shapeCasts_S100000x256_S25000x4x256 ]

/-- The position of the largest product within each group of four. -/
abbrev opsArgmax : List (HloOp τ sig (Elt F)) :=
  [ TRef.nullary main_call1.v0 (iotaInDim S25000x4x256 32 1),
    TRef.nullary main_call1.cst (constant S_ .f32 0xFF800000#32),
    TRef.nullary main_call1.c (constantI S_ 32 0#32),
    TRef.quaternary (.of main_v6) main_call1.v0 main_call1.cst main_call1.c main_call1.v1_0 (fun x y u v j => (Host.argReduce reducer_argmax_f32_i32 x y u v reducesTo_S25000x4x256_S25000x256_d1 h_S_ j).1),
    TRef.quaternary (.of main_v6) main_call1.v0 main_call1.cst main_call1.c main_call1.v1_1 (fun x y u v j => (Host.argReduce reducer_argmax_f32_i32 x y u v reducesTo_S25000x4x256_S25000x256_d1 h_S_ j).2) ]

/-- The second argument reshaped to groups of four. -/
abbrev opsCols : List (HloOp τ sig (Elt F)) :=
  [ reshape main_arg1 main_v8 (rfl : (.i32 : EltTy) = .i32) shapeCasts_S100000_S25000x4 ]

/-- The number that the second argument holds at the position found. -/
abbrev opsPick : List (HloOp τ sig (Elt F)) :=
  [ TRef.nullary main_call2.c (constantI S_ 32 0#32),
    TRef.unary main_call2.c main_call2.v0 (broadcastInDim S25000x256 ![] bcast_S_S25000x256),
    TRef.binary (.of main_v7) main_call2.v0 main_call2.v1 (cmpi .slt),
    TRef.nullary main_call2.c_0 (constantI S_ 32 4#32),
    TRef.unary main_call2.c_0 main_call2.v2 (broadcastInDim S25000x256 ![] bcast_S_S25000x256),
    TRef.binary (.of main_v7) main_call2.v2 main_call2.v3 addi,
    TRef.ternary main_call2.v1 main_call2.v3 (.of main_v7) main_call2.v4 select,
    TRef.reshape main_call2.v4 main_call2.v5 (rfl : (.i32 : EltTy) = .i32) shapeCasts_S25000x256_S25000x256x1,
    TRef.nullary main_call2.c_1 (constantI S1 32 3#32),
    TRef.nullary main_call2.c_2 (constantI S_ 32 0#32),
    TRef.unary main_call2.c_2 main_call2.v6 (broadcastInDim S25000x256x1 ![] bcast_S_S25000x256x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S25000x256x1 ![0, 1, 2] bcast_S1x1x1_S25000x256x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S25000x256x1_S25000x256_d2 h_S_),
    TRef.binary (.of main_v8) main_call2.v5 main_call2.v13 (fun x i => Host.gather gather_S25000x4_S25000x256x1_S25000x256_n_1_0_0_1_2_11 x i),
    TRef.nullary main_call2.c_4 (constantI S_ 32 2147483648#32),
    TRef.unary main_call2.c_4 main_call2.v14 (broadcastInDim S25000x256 ![] bcast_S_S25000x256),
    TRef.ternary main_call2.v12 main_call2.v13 main_call2.v14 main_call2.v15 select ]

/-- The entry of the rows at the number found. -/
abbrev opsFetch : List (HloOp τ sig (Elt F)) :=
  [ TRef.nullary main_call3.c (constantI S_ 32 0#32),
    TRef.unary main_call3.c main_call3.v0 (broadcastInDim S25000x256 ![] bcast_S_S25000x256),
    TRef.binary (.of main_v9) main_call3.v0 main_call3.v1 (cmpi .slt),
    TRef.nullary main_call3.c_0 (constantI S_ 32 100000#32),
    TRef.unary main_call3.c_0 main_call3.v2 (broadcastInDim S25000x256 ![] bcast_S_S25000x256),
    TRef.binary (.of main_v9) main_call3.v2 main_call3.v3 addi,
    TRef.ternary main_call3.v1 main_call3.v3 (.of main_v9) main_call3.v4 select,
    TRef.reshape main_call3.v4 main_call3.v5 (rfl : (.i32 : EltTy) = .i32) shapeCasts_S25000x256_S25000x256x1,
    TRef.nullary main_call3.c_1 (constantI S1 32 99999#32),
    TRef.nullary main_call3.c_2 (constantI S_ 32 0#32),
    TRef.unary main_call3.c_2 main_call3.v6 (broadcastInDim S25000x256x1 ![] bcast_S_S25000x256x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S25000x256x1 ![0, 1, 2] bcast_S1x1x1_S25000x256x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S25000x256x1_S25000x256_d2 h_S_),
    TRef.binary (.of main_v1) main_call3.v5 main_call3.v13 (fun x i => Host.gather gather_S100000x256_S25000x256x1_S25000x256_n_0_1_1_0_2_11 x i),
    TRef.nullary main_call3.cst (constant S_ .f32 0x7FC00000#32),
    TRef.unary main_call3.cst main_call3.v14 (broadcastInDim S25000x256 ![] bcast_S_S25000x256),
    TRef.ternary main_call3.v12 main_call3.v13 main_call3.v14 main_call3.v15 select ]

/-- The two results: the numbers found beside the channel numbers, and the entries found. -/
abbrev opsOut : List (HloOp τ sig (Elt F)) :=
  [ nullary main_v11 (iotaInDim S256 32 0),
    unary main_v11 main_v12 (broadcastInDim S1x256 ![1] bcast_S256_S1x256_1 : (⟨S256, .i32⟩ : BufTy).Contents (Elt F) → (⟨S1x256, .i32⟩ : BufTy).Contents (Elt F)),
    unary main_v12 main_v13 (broadcastInDim S25000x256 ![0, 1] bcast_S1x256_S25000x256_0_1 : (⟨S1x256, .i32⟩ : BufTy).Contents (Elt F) → (⟨S25000x256, .i32⟩ : BufTy).Contents (Elt F)),
    unary main_v9 main_v14 (broadcastInDim S25000x256x1 ![0, 1] bcast_S25000x256_S25000x256x1_0_1 : (⟨S25000x256, .i32⟩ : BufTy).Contents (Elt F) → (⟨S25000x256x1, .i32⟩ : BufTy).Contents (Elt F)),
    unary main_v13 main_v15 (broadcastInDim S25000x256x1 ![0, 1] bcast_S25000x256_S25000x256x1_0_1 : (⟨S25000x256, .i32⟩ : BufTy).Contents (Elt F) → (⟨S25000x256x1, .i32⟩ : BufTy).Contents (Elt F)),
    binary main_v14 main_v15 main_v16 ((fun a b => concatenate S25000x256x2 2 [⟨S25000x256x1, a⟩, ⟨S25000x256x1, b⟩] concatenates_S25000x256x1_S25000x256x1_S25000x256x2_d2) : (⟨S25000x256x1, .i32⟩ : BufTy).Contents (Elt F) → (⟨S25000x256x1, .i32⟩ : BufTy).Contents (Elt F) → (⟨S25000x256x2, .i32⟩ : BufTy).Contents (Elt F)),
    unary main_v16 main_v17 ((transpose S256x25000x2 [1, 0, 2] · transposes_S25000x256x2_S256x25000x2_1_0_2) : (⟨S25000x256x2, .i32⟩ : BufTy).Contents (Elt F) → (⟨S256x25000x2, .i32⟩ : BufTy).Contents (Elt F)),
    reshape main_v17 main_v18 (rfl : (.i32 : EltTy) = .i32) shapeCasts_S256x25000x2_S6400000x2,
    unary main_v18 main_v19 ((transpose S2x6400000 [1, 0] · transposes_S6400000x2_S2x6400000_1_0) : (⟨S6400000x2, .i32⟩ : BufTy).Contents (Elt F) → (⟨S2x6400000, .i32⟩ : BufTy).Contents (Elt F)),
    reshape main_v10 main_v20 (rfl : (.f32 : EltTy) = .f32) shapeCasts_S25000x256_S25000x128x2,
    unary main_v20 main_v21 ((transpose S2x25000x128 [2, 0, 1] · transposes_S25000x128x2_S2x25000x128_2_0_1) : (⟨S25000x128x2, .f32⟩ : BufTy).Contents (Elt F) → (⟨S2x25000x128, .f32⟩ : BufTy).Contents (Elt F)) ]

/-- All the operations of the reference, in order. -/
abbrev ops : List (HloOp τ sig (Elt F)) :=
  opsRows ++ (opsTake ++ (opsWeigh ++ (opsArgmax ++ (opsCols ++ (opsPick ++ (opsFetch ++ (opsOut)))))))

/-- The call that gathers the rows is the second stage. -/
theorem take_eq : fn_take.body (F := F) (.of main_v1) (.of main_arg1) main_call0 = seq opsTake := by
  simp only [fn_take.body, fn_where.body, opsTake, seq, bind_assoc, pure_bind]

/-- The call that finds the largest product is the fourth stage. -/
theorem argmax_eq : fn_argmax.body (F := F) (.of main_v6) main_call1 = seq opsArgmax := rfl

/-- The call that picks a number is the sixth stage. -/
theorem pick_eq : fn_take_along_axis.body (F := F) (.of main_v8) (.of main_v7) main_call2 = seq opsPick := rfl

/-- The call that fetches an entry is the seventh stage. -/
theorem fetch_eq : fn_take_along_axis_0.body (F := F) (.of main_v1) (.of main_v9) main_call3 = seq opsFetch := rfl

/-- The reference is that straight line: each call is its stage, and both sides are one chain of steps. -/
theorem main_eq (c : Dev nD) : main (F := F) c = seq ops := by
  simp only [main, take_eq, argmax_eq, pick_eq, fetch_eq, ops, seq_append]
  rfl

theorem no_scoped_refs : (Finset.univ.filter fun b : Ref sig .tc => b.isScoped) = ∅ := by decide
theorem no_scoped_sems : (Finset.univ.filter fun sm : SemLoc sig => sm.isScoped .tc) = ∅ := by decide

theorem opsRows_sub : (opsRows : List (HloOp τ sig (Elt F))).Forall fun op => op.bufs ⊆ tcRefs τ sig :=
  ⟨unary_bufs_sub .., reshape_bufs_sub ..⟩

theorem opsTake_sub : (opsTake : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem opsWeigh_sub : (opsWeigh : List (HloOp τ sig (Elt F))).Forall fun op => op.bufs ⊆ tcRefs τ sig :=
  ⟨unary_bufs_sub .., unary_bufs_sub .., binary_bufs_sub .., reshape_bufs_sub ..⟩

theorem opsArgmax_sub : (opsArgmax : List (HloOp τ sig (Elt F))).Forall fun op => op.bufs ⊆ tcRefs τ sig :=
  ⟨nullary_bufs_sub .., nullary_bufs_sub .., nullary_bufs_sub .., quaternary_bufs_sub .., quaternary_bufs_sub ..⟩

theorem opsCols_sub : (opsCols : List (HloOp τ sig (Elt F))).Forall fun op => op.bufs ⊆ tcRefs τ sig :=
  reshape_bufs_sub ..

theorem opsPick_sub : (opsPick : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsFetch_sub : (opsFetch : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

theorem opsOut_sub : (opsOut : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., reshape_bufs_sub .., unary_bufs_sub .., reshape_bufs_sub .., unary_bufs_sub ..⟩

/-- Every operation of the line touches buffers of the core alone. -/
theorem ops_sub : (ops : List (HloOp τ sig (Elt F))).Forall fun op => op.bufs ⊆ tcRefs τ sig := by
  simp only [ops, List.forall_append]
  exact ⟨opsRows_sub, opsTake_sub, opsWeigh_sub, opsArgmax_sub, opsCols_sub, opsPick_sub, opsFetch_sub, opsOut_sub⟩

/-- From any memory with zero counters the reference ends with every buffer at what the line leaves there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq no_scoped_refs no_scoped_sems defs main (fun _ => ops) main_eq (fun _ => ops_sub) m ρ

end Cert.Ref
-- ==== Proof.RefRun.lean ====
module

public import proofs.«01_k».proof.Proof.RefOps
public import Idealize.ShloMosaic.Lib.Pipeline.Frame

/-! What each stage of the reference computes, as a function of the arrays it reads, and the two results composed. -/

@[expose] public section

set_option maxRecDepth 16384

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F]

/-- One row of 256 numbers per node: the channels beside the batch. -/
def rows (x : FVec F S2x100000x128 .f32) : FVec F S100000x256 .f32 :=
  shapeCast S100000x256 (transpose S100000x128x2 [1, 2, 0] x transposes_S2x100000x128_S100000x128x2_1_2_0)
    shapeCasts_S100000x128x2_S100000x256

/-- The start of each gathered row: a negative number counted from the end. -/
def takeAt (col : IVec S100000 32) : IVec S100000x1 32 :=
  broadcastInDim S100000x1 ![0] bcast_S100000_S100000x1_0
    (select (cmpi .slt col (broadcastInDim S100000 ![] bcast_S_S100000 (constantI S_ 32 0#32)))
      (addi col (broadcastInDim S100000 ![] bcast_S_S100000 (constantI S_ 32 100000#32))) col)

/-- Whether each start lies in the table. -/
def takeIn (s : IVec S100000x1 32) : IVec S100000 1 :=
  Host.reduce IntOp.andi
    (andi (cmpi .sge s (broadcastInDim S100000x1 ![] bcast_S_S100000x1 (constantI S_ 32 0#32)))
      (cmpi .sle s (broadcastInDim S100000x1 ![0, 1] bcast_S1x1_S100000x1_0_1
        (broadcastInDim S1x1 ![1] bcast_S1_S1x1_1 (constantI S1 32 99999#32)))))
    (constantI S_ 1 1#1) reducesTo_S100000x1_S100000_d1 h_S_

/-- The rows at the numbers given. -/
def take (r : FVec F S100000x256 .f32) (col : IVec S100000 32) : FVec F S100000x256 .f32 :=
  select (broadcastInDim S100000x256 ![0] bcast_S100000_S100000x256_0 (takeIn (takeAt col)))
    (Host.gather gather_S100000x256_S100000x1_S100000x256_1_0_n_n_0_1_1256 r (takeAt col))
    (broadcastInDim S100000x256 ![] bcast_S_S100000x256 (constant S_ .f32 0x7FC00000#32))

/-- The products with the weights, in groups of four rows. -/
def weigh (w : FVec F S100000 .f32) (t : FVec F S100000x256 .f32) : FVec F S25000x4x256 .f32 :=
  shapeCast S25000x4x256
    (mulf (broadcastInDim S100000x256 ![0, 1] bcast_S100000x1_S100000x256_0_1
      (broadcastInDim S100000x1 ![0] bcast_S100000_S100000x1_0 w)) t)
    shapeCasts_S100000x256_S25000x4x256

/-- The position of the largest product in each group. -/
def argmax (p : FVec F S25000x4x256 .f32) : IVec S25000x256 32 := fun j =>
  (Host.argReduce reducer_argmax_f32_i32 p (iotaInDim S25000x4x256 32 1) (constant S_ .f32 0xFF800000#32)
    (constantI S_ 32 0#32) reducesTo_S25000x4x256_S25000x256_d1 h_S_ j).2

/-- The second argument in groups of four. -/
def cols (col : IVec S100000 32) : IVec S25000x4 32 := shapeCast S25000x4 col shapeCasts_S100000_S25000x4

/-- A position in an axis of `n`, a negative one counted from the end, beside a unit axis. -/
def alongAt (n : BitVec 32) (a : IVec S25000x256 32) : IVec S25000x256x1 32 :=
  shapeCast S25000x256x1
    (select (cmpi .slt a (broadcastInDim S25000x256 ![] bcast_S_S25000x256 (constantI S_ 32 0#32)))
      (addi a (broadcastInDim S25000x256 ![] bcast_S_S25000x256 (constantI S_ 32 n))) a)
    shapeCasts_S25000x256_S25000x256x1

/-- Whether each position is between 0 and `n`. -/
def alongIn (n : BitVec 32) (s : IVec S25000x256x1 32) : IVec S25000x256 1 :=
  Host.reduce IntOp.andi
    (andi (cmpi .sge s (broadcastInDim S25000x256x1 ![] bcast_S_S25000x256x1 (constantI S_ 32 0#32)))
      (cmpi .sle s (broadcastInDim S25000x256x1 ![0, 1, 2] bcast_S1x1x1_S25000x256x1_0_1_2
        (broadcastInDim S1x1x1 ![2] bcast_S1_S1x1x1_2 (constantI S1 32 n)))))
    (constantI S_ 1 1#1) reducesTo_S25000x256x1_S25000x256_d2 h_S_

/-- The number of each group at the position found. -/
def pick (q : IVec S25000x4 32) (a : IVec S25000x256 32) : IVec S25000x256 32 :=
  select (alongIn 3#32 (alongAt 4#32 a))
    (Host.gather gather_S25000x4_S25000x256x1_S25000x256_n_1_0_0_1_2_11 q (alongAt 4#32 a))
    (broadcastInDim S25000x256 ![] bcast_S_S25000x256 (constantI S_ 32 2147483648#32))

/-- The entry of the rows at the number found. -/
def fetch (r : FVec F S100000x256 .f32) (a : IVec S25000x256 32) : FVec F S25000x256 .f32 :=
  select (alongIn 99999#32 (alongAt 100000#32 a))
    (Host.gather gather_S100000x256_S25000x256x1_S25000x256_n_0_1_1_0_2_11 r (alongAt 100000#32 a))
    (broadcastInDim S25000x256 ![] bcast_S_S25000x256 (constant S_ .f32 0x7FC00000#32))

/-- The entries found, back to batch, group, channel. -/
def outVal (e : FVec F S25000x256 .f32) : FVec F S2x25000x128 .f32 :=
  transpose S2x25000x128 [2, 0, 1] (shapeCast S25000x128x2 e shapeCasts_S25000x256_S25000x128x2)
    transposes_S25000x128x2_S2x25000x128_2_0_1

/-- The numbers found beside the channel numbers, one column per channel and group. -/
def outIdx (a : IVec S25000x256 32) : IVec S2x6400000 32 :=
  transpose S2x6400000 [1, 0]
    (shapeCast S6400000x2
      (transpose S256x25000x2 [1, 0, 2]
        (concatenate S25000x256x2 2
          [⟨S25000x256x1, broadcastInDim S25000x256x1 ![0, 1] bcast_S25000x256_S25000x256x1_0_1 a⟩,
            ⟨S25000x256x1, broadcastInDim S25000x256x1 ![0, 1] bcast_S25000x256_S25000x256x1_0_1
              (broadcastInDim S25000x256 ![0, 1] bcast_S1x256_S25000x256_0_1
                (broadcastInDim S1x256 ![1] bcast_S256_S1x256_1 (iotaInDim S256 32 0)))⟩]
          concatenates_S25000x256x1_S25000x256x1_S25000x256x2_d2)
        transposes_S25000x256x2_S256x25000x2_1_0_2)
      shapeCasts_S256x25000x2_S6400000x2)
    transposes_S6400000x2_S2x6400000_1_0

variable (V : Valuation τ sig (Elt F))

theorem opsRows_main_v1 : after opsRows V (no_index (main_v1 : DevRef τ sig)) = rows (V (main_arg0 : DevRef τ sig)) := by
  after_results_simp
  rfl

theorem opsTake_main_v2 : after opsTake V (no_index (main_v2 : DevRef τ sig)) = take (V (main_v1 : DevRef τ sig)) (V (main_arg1 : DevRef τ sig)) := by
  after_results_simp
  simp -implicitDefEqProofs only [TRef.toBuf, TRef.ofBuf, cast_cast, cast_eq]
  unfold take takeIn takeAt
  rfl

theorem opsWeigh_main_v6 : after opsWeigh V (no_index (main_v6 : DevRef τ sig)) = weigh (V (main_arg2 : DevRef τ sig)) (V (main_v2 : DevRef τ sig)) := by
  after_results_simp
  rfl

theorem opsArgmax_main_v7 : after opsArgmax V (no_index (main_v7 : DevRef τ sig)) = argmax (V (main_v6 : DevRef τ sig)) := by
  after_results_simp
  rfl

theorem opsCols_main_v8 : after opsCols V (no_index (main_v8 : DevRef τ sig)) = cols (V (main_arg1 : DevRef τ sig)) := by
  after_results_simp
  rfl

theorem opsPick_main_v9 : after opsPick V (no_index (main_v9 : DevRef τ sig)) = pick (V (main_v8 : DevRef τ sig)) (V (main_v7 : DevRef τ sig)) := by
  after_results_simp
  simp -implicitDefEqProofs only [TRef.toBuf, TRef.ofBuf, cast_cast, cast_eq]
  unfold pick alongIn alongAt
  rfl

theorem opsFetch_main_v10 : after opsFetch V (no_index (main_v10 : DevRef τ sig)) = fetch (V (main_v1 : DevRef τ sig)) (V (main_v9 : DevRef τ sig)) := by
  after_results_simp
  simp -implicitDefEqProofs only [TRef.toBuf, TRef.ofBuf, cast_cast, cast_eq]
  unfold fetch alongIn alongAt
  rfl

theorem opsOut_main_v21 : after opsOut V (no_index (main_v21 : DevRef τ sig)) = outVal (V (main_v10 : DevRef τ sig)) := by
  after_results_simp
  rfl

theorem opsOut_main_v19 : after opsOut V (no_index (main_v19 : DevRef τ sig)) = outIdx (V (main_v9 : DevRef τ sig)) := by
  after_results_simp
  rfl

theorem opsRows_keeps_main_arg0 : after opsRows V (no_index (main_arg0 : DevRef τ sig)) = V (main_arg0 : DevRef τ sig) := by
  after_results_simp

theorem opsRows_keeps_main_arg1 : after opsRows V (no_index (main_arg1 : DevRef τ sig)) = V (main_arg1 : DevRef τ sig) := by
  after_results_simp

theorem opsRows_keeps_main_arg2 : after opsRows V (no_index (main_arg2 : DevRef τ sig)) = V (main_arg2 : DevRef τ sig) := by
  after_results_simp

theorem opsTake_keeps_main_arg0 : after opsTake V (no_index (main_arg0 : DevRef τ sig)) = V (main_arg0 : DevRef τ sig) := by
  after_results_simp

theorem opsTake_keeps_main_arg1 : after opsTake V (no_index (main_arg1 : DevRef τ sig)) = V (main_arg1 : DevRef τ sig) := by
  after_results_simp

theorem opsTake_keeps_main_arg2 : after opsTake V (no_index (main_arg2 : DevRef τ sig)) = V (main_arg2 : DevRef τ sig) := by
  after_results_simp

theorem opsTake_keeps_main_v1 : after opsTake V (no_index (main_v1 : DevRef τ sig)) = V (main_v1 : DevRef τ sig) := by
  after_results_simp

theorem opsWeigh_keeps_main_arg0 : after opsWeigh V (no_index (main_arg0 : DevRef τ sig)) = V (main_arg0 : DevRef τ sig) := by
  after_results_simp

theorem opsWeigh_keeps_main_arg1 : after opsWeigh V (no_index (main_arg1 : DevRef τ sig)) = V (main_arg1 : DevRef τ sig) := by
  after_results_simp

theorem opsWeigh_keeps_main_arg2 : after opsWeigh V (no_index (main_arg2 : DevRef τ sig)) = V (main_arg2 : DevRef τ sig) := by
  after_results_simp

theorem opsWeigh_keeps_main_v1 : after opsWeigh V (no_index (main_v1 : DevRef τ sig)) = V (main_v1 : DevRef τ sig) := by
  after_results_simp

theorem opsArgmax_keeps_main_arg0 : after opsArgmax V (no_index (main_arg0 : DevRef τ sig)) = V (main_arg0 : DevRef τ sig) := by
  after_results_simp

theorem opsArgmax_keeps_main_arg1 : after opsArgmax V (no_index (main_arg1 : DevRef τ sig)) = V (main_arg1 : DevRef τ sig) := by
  after_results_simp

theorem opsArgmax_keeps_main_arg2 : after opsArgmax V (no_index (main_arg2 : DevRef τ sig)) = V (main_arg2 : DevRef τ sig) := by
  after_results_simp

theorem opsArgmax_keeps_main_v1 : after opsArgmax V (no_index (main_v1 : DevRef τ sig)) = V (main_v1 : DevRef τ sig) := by
  after_results_simp

theorem opsCols_keeps_main_arg0 : after opsCols V (no_index (main_arg0 : DevRef τ sig)) = V (main_arg0 : DevRef τ sig) := by
  after_results_simp

theorem opsCols_keeps_main_arg1 : after opsCols V (no_index (main_arg1 : DevRef τ sig)) = V (main_arg1 : DevRef τ sig) := by
  after_results_simp

theorem opsCols_keeps_main_arg2 : after opsCols V (no_index (main_arg2 : DevRef τ sig)) = V (main_arg2 : DevRef τ sig) := by
  after_results_simp

theorem opsCols_keeps_main_v1 : after opsCols V (no_index (main_v1 : DevRef τ sig)) = V (main_v1 : DevRef τ sig) := by
  after_results_simp

theorem opsCols_keeps_main_v7 : after opsCols V (no_index (main_v7 : DevRef τ sig)) = V (main_v7 : DevRef τ sig) := by
  after_results_simp

theorem opsPick_keeps_main_arg0 : after opsPick V (no_index (main_arg0 : DevRef τ sig)) = V (main_arg0 : DevRef τ sig) := by
  after_results_simp

theorem opsPick_keeps_main_arg1 : after opsPick V (no_index (main_arg1 : DevRef τ sig)) = V (main_arg1 : DevRef τ sig) := by
  after_results_simp

theorem opsPick_keeps_main_arg2 : after opsPick V (no_index (main_arg2 : DevRef τ sig)) = V (main_arg2 : DevRef τ sig) := by
  after_results_simp

theorem opsPick_keeps_main_v1 : after opsPick V (no_index (main_v1 : DevRef τ sig)) = V (main_v1 : DevRef τ sig) := by
  after_results_simp

theorem opsFetch_keeps_main_arg0 : after opsFetch V (no_index (main_arg0 : DevRef τ sig)) = V (main_arg0 : DevRef τ sig) := by
  after_results_simp

theorem opsFetch_keeps_main_arg1 : after opsFetch V (no_index (main_arg1 : DevRef τ sig)) = V (main_arg1 : DevRef τ sig) := by
  after_results_simp

theorem opsFetch_keeps_main_arg2 : after opsFetch V (no_index (main_arg2 : DevRef τ sig)) = V (main_arg2 : DevRef τ sig) := by
  after_results_simp

theorem opsFetch_keeps_main_v9 : after opsFetch V (no_index (main_v9 : DevRef τ sig)) = V (main_v9 : DevRef τ sig) := by
  after_results_simp

theorem opsOut_keeps_main_arg0 : after opsOut V (no_index (main_arg0 : DevRef τ sig)) = V (main_arg0 : DevRef τ sig) := by
  after_results_simp

theorem opsOut_keeps_main_arg1 : after opsOut V (no_index (main_arg1 : DevRef τ sig)) = V (main_arg1 : DevRef τ sig) := by
  after_results_simp

theorem opsOut_keeps_main_arg2 : after opsOut V (no_index (main_arg2 : DevRef τ sig)) = V (main_arg2 : DevRef τ sig) := by
  after_results_simp

/-- The line leaves this argument as it was. -/
theorem ops_main_arg0 : after ops V (main_arg0 : DevRef τ sig) = V (main_arg0 : DevRef τ sig) := by
  simp only [ops, after_append, opsRows_keeps_main_arg0, opsTake_keeps_main_arg0, opsWeigh_keeps_main_arg0, opsArgmax_keeps_main_arg0, opsCols_keeps_main_arg0, opsPick_keeps_main_arg0, opsFetch_keeps_main_arg0, opsOut_keeps_main_arg0]

/-- The line leaves this argument as it was. -/
theorem ops_main_arg1 : after ops V (main_arg1 : DevRef τ sig) = V (main_arg1 : DevRef τ sig) := by
  simp only [ops, after_append, opsRows_keeps_main_arg1, opsTake_keeps_main_arg1, opsWeigh_keeps_main_arg1, opsArgmax_keeps_main_arg1, opsCols_keeps_main_arg1, opsPick_keeps_main_arg1, opsFetch_keeps_main_arg1, opsOut_keeps_main_arg1]

/-- The line leaves this argument as it was. -/
theorem ops_main_arg2 : after ops V (main_arg2 : DevRef τ sig) = V (main_arg2 : DevRef τ sig) := by
  simp only [ops, after_append, opsRows_keeps_main_arg2, opsTake_keeps_main_arg2, opsWeigh_keeps_main_arg2, opsArgmax_keeps_main_arg2, opsCols_keeps_main_arg2, opsPick_keeps_main_arg2, opsFetch_keeps_main_arg2, opsOut_keeps_main_arg2]

/-- The number found for every group and channel, from the three arguments. -/
def found (x : FVec F S2x100000x128 .f32) (col : IVec S100000 32) (w : FVec F S100000 .f32) : IVec S25000x256 32 :=
  pick (cols col) (argmax (weigh w (take (rows x) col)))

/-- The first result of the line. -/
theorem ops_val : after ops V (main_v21 : DevRef τ sig)
    = outVal (fetch (rows (V (main_arg0 : DevRef τ sig)))
        (found (V (main_arg0 : DevRef τ sig)) (V (main_arg1 : DevRef τ sig)) (V (main_arg2 : DevRef τ sig)))) := by
  simp only [ops, found, after_append, opsRows_main_v1, opsTake_main_v2, opsWeigh_main_v6, opsArgmax_main_v7, opsCols_main_v8, opsPick_main_v9, opsFetch_main_v10, opsOut_main_v21, opsOut_main_v19, opsRows_keeps_main_arg0, opsRows_keeps_main_arg1, opsRows_keeps_main_arg2, opsTake_keeps_main_arg0, opsTake_keeps_main_arg1, opsTake_keeps_main_arg2, opsTake_keeps_main_v1, opsWeigh_keeps_main_arg0, opsWeigh_keeps_main_arg1, opsWeigh_keeps_main_arg2, opsWeigh_keeps_main_v1, opsArgmax_keeps_main_arg0, opsArgmax_keeps_main_arg1, opsArgmax_keeps_main_arg2, opsArgmax_keeps_main_v1, opsCols_keeps_main_arg0, opsCols_keeps_main_arg1, opsCols_keeps_main_arg2, opsCols_keeps_main_v1, opsCols_keeps_main_v7, opsPick_keeps_main_arg0, opsPick_keeps_main_arg1, opsPick_keeps_main_arg2, opsPick_keeps_main_v1, opsFetch_keeps_main_arg0, opsFetch_keeps_main_arg1, opsFetch_keeps_main_arg2, opsFetch_keeps_main_v9, opsOut_keeps_main_arg0, opsOut_keeps_main_arg1, opsOut_keeps_main_arg2]

/-- The second result of the line. -/
theorem ops_idx : after ops V (main_v19 : DevRef τ sig)
    = outIdx (found (V (main_arg0 : DevRef τ sig)) (V (main_arg1 : DevRef τ sig)) (V (main_arg2 : DevRef τ sig))) := by
  simp only [ops, found, after_append, opsRows_main_v1, opsTake_main_v2, opsWeigh_main_v6, opsArgmax_main_v7, opsCols_main_v8, opsPick_main_v9, opsFetch_main_v10, opsOut_main_v21, opsOut_main_v19, opsRows_keeps_main_arg0, opsRows_keeps_main_arg1, opsRows_keeps_main_arg2, opsTake_keeps_main_arg0, opsTake_keeps_main_arg1, opsTake_keeps_main_arg2, opsTake_keeps_main_v1, opsWeigh_keeps_main_arg0, opsWeigh_keeps_main_arg1, opsWeigh_keeps_main_arg2, opsWeigh_keeps_main_v1, opsArgmax_keeps_main_arg0, opsArgmax_keeps_main_arg1, opsArgmax_keeps_main_arg2, opsArgmax_keeps_main_v1, opsCols_keeps_main_arg0, opsCols_keeps_main_arg1, opsCols_keeps_main_arg2, opsCols_keeps_main_v1, opsCols_keeps_main_v7, opsPick_keeps_main_arg0, opsPick_keeps_main_arg1, opsPick_keeps_main_arg2, opsPick_keeps_main_v1, opsFetch_keeps_main_arg0, opsFetch_keeps_main_arg1, opsFetch_keeps_main_arg2, opsFetch_keeps_main_v9, opsOut_keeps_main_arg0, opsOut_keeps_main_arg1, opsOut_keeps_main_arg2]

/-- The reference's run: both results from the arguments, the arguments unchanged, every counter zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v21)
          = outVal (fetch (rows (m ((c.tc : Thread nD τ).loc main_arg0)))
              (found (m ((c.tc : Thread nD τ).loc main_arg0)) (m ((c.tc : Thread nD τ).loc main_arg1))
                (m ((c.tc : Thread nD τ).loc main_arg2))))
        ∧ r.2.mem ((c.tc : Thread nD τ).loc main_v19)
          = outIdx (found (m ((c.tc : Thread nD τ).loc main_arg0)) (m ((c.tc : Thread nD τ).loc main_arg1))
              (m ((c.tc : Thread nD τ).loc main_arg2)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c => ⟨(h c main_v21).trans (ops_val _), (h c main_v19).trans (ops_idx _),
      (h c main_arg0).trans (ops_main_arg0 _), (h c main_arg1).trans (ops_main_arg1 _),
      (h c main_arg2).trans (ops_main_arg2 _)⟩, sem_eq_zero_of_no_sems (by decide) r.2⟩) (run_main m ρ)

end Cert.Ref
-- ==== Proof.RefLayout.lean ====
module

public import proofs.«01_k».proof.Proof.RefRun
public import proofs.«01_k».proof.Proof.Spec
public import Idealize.ShloMosaic.Lib.Pipeline.Value

/-! The reference's rearrangements and its product, read at an index. -/

@[expose] public section

set_option maxRecDepth 16384

noncomputable section

namespace Cert.Ref

open Cert.ReferenceIdeal Cert.ReferenceIdeal.Gen
open Idealize.ShloMosaic Idealize.ShloMosaic.TcCoe Idealize.ShloMosaic.StableHlo Cert.Spec

/-- Entry `q` of a node's row belongs to batch `q mod 2` and channel `q / 2`. -/
theorem rows_apply (x : FVec Ideal S2x100000x128 .f32) (r : Fin 100000) (q : Fin 256) :
    rows x (ix2 r q) = x (ix3 (⟨q.val % 2, by omega⟩ : Fin 2) r (⟨q.val / 2, by omega⟩ : Fin 128)) := by
  unfold rows
  rw [shapeCast_apply _ _ (ix2 r q) (ix3 r (⟨q.val / 2, by omega⟩ : Fin 128) (⟨q.val % 2, by omega⟩ : Fin 2))
    (by rw [Shape.rowMajor_val_three, Shape.rowMajor_val_two]
        show (r.val * 128 + q.val / 2) * 2 + q.val % 2 = r.val * 256 + q.val
        omega)]
  rw [transpose_apply _ _ _ _ (ix3 (⟨q.val % 2, by omega⟩ : Fin 2) r (⟨q.val / 2, by omega⟩ : Fin 128))]
  intro a; fin_cases a <;> rfl

/-- The weighted entry at place `k` of group `n`. -/
theorem weigh_apply (w : FVec Ideal S100000 .f32) (t : FVec Ideal S100000x256 .f32) (n : Fin 25000) (k : Fin 4) (q : Fin 256) :
    weigh w t (ix3 n k q) = w (ix1 (node n k)) * t (ix2 (node n k) q) := by
  unfold weigh
  rw [shapeCast_apply _ _ (ix3 n k q) (ix2 (node n k) q)
    (by rw [Shape.rowMajor_val_three, Shape.rowMajor_val_two]
        show (4 * n.val + k.val) * 256 + q.val = (n.val * 4 + k.val) * 256 + q.val
        omega)]
  show broadcastInDim S100000x256 ![0, 1] bcast_S100000x1_S100000x256_0_1
      (broadcastInDim S100000x1 ![0] bcast_S100000_S100000x1_0 w) (ix2 (node n k) q) * _ = _
  rw [broadcastInDim_apply _ _ _ _ (ix2 (node n k) (0 : Fin 1)) (by intro a; fin_cases a <;> rfl),
    broadcastInDim_apply _ _ _ _ (ix1 (node n k)) (by intro a; fin_cases a <;> rfl)]

/-- The numbers in groups of four. -/
theorem cols_apply (col : IVec S100000 32) (n : Fin 25000) (k : Fin 4) : cols col (ix2 n k) = col (ix1 (node n k)) := by
  unfold cols
  rw [shapeCast_apply _ _ (ix2 n k) (ix1 (node n k))
    (by rw [Shape.rowMajor_val_one, Shape.rowMajor_val_two]
        show 4 * n.val + k.val = n.val * 4 + k.val
        omega)]

/-- The first result holds, at batch `b` and channel `v`, the entry of row place `2v + b`. -/
theorem outVal_apply (e : FVec Ideal S25000x256 .f32) (b : Fin 2) (n : Fin 25000) (v : Fin 128) :
    outVal e (ix3 b n v) = e (ix2 n (⟨2 * v.val + b.val, by omega⟩ : Fin 256)) := by
  unfold outVal
  rw [transpose_apply _ _ _ _ (ix3 n v b) (by intro a; fin_cases a <;> rfl),
    shapeCast_apply _ _ (ix3 n v b) (ix2 n (⟨2 * v.val + b.val, by omega⟩ : Fin 256))
    (by rw [Shape.rowMajor_val_three, Shape.rowMajor_val_two]
        show n.val * 256 + (2 * v.val + b.val) = (n.val * 128 + v.val) * 2 + b.val
        omega)]

/-- Column `p` of the second result is at channel `p / 25000` and group `p mod 25000`. -/
theorem outIdx_split (a : IVec S25000x256 32) (h : Fin 2) (p : Fin 6400000) :
    outIdx a (ix2 h p) = concatenate S25000x256x2 2
          [⟨S25000x256x1, broadcastInDim S25000x256x1 ![0, 1] bcast_S25000x256_S25000x256x1_0_1 a⟩,
            ⟨S25000x256x1, broadcastInDim S25000x256x1 ![0, 1] bcast_S25000x256_S25000x256x1_0_1
              (broadcastInDim S25000x256 ![0, 1] bcast_S1x256_S25000x256_0_1
                (broadcastInDim S1x256 ![1] bcast_S256_S1x256_1 (iotaInDim S256 32 0)))⟩]
          concatenates_S25000x256x1_S25000x256x1_S25000x256x2_d2
        (ix3 (⟨p.val % 25000, by omega⟩ : Fin 25000) (⟨p.val / 25000, by omega⟩ : Fin 256) h) := by
  unfold outIdx
  rw [transpose_apply _ _ _ _ (ix2 p h) (by intro a; fin_cases a <;> rfl),
    shapeCast_apply _ _ (ix2 p h) (ix3 (⟨p.val / 25000, by omega⟩ : Fin 256) (⟨p.val % 25000, by omega⟩ : Fin 25000) h)
    (by rw [Shape.rowMajor_val_three, Shape.rowMajor_val_two]
        show (p.val / 25000 * 25000 + p.val % 25000) * 2 + h.val = p.val * 2 + h.val
        omega),
    transpose_apply _ _ _ _ (ix3 (⟨p.val % 25000, by omega⟩ : Fin 25000) (⟨p.val / 25000, by omega⟩ : Fin 256) h)
      (by intro a; fin_cases a <;> rfl)]

/-- The first row holds the numbers found. -/
theorem outIdx_zero (a : IVec S25000x256 32) (p : Fin 6400000) :
    outIdx a (ix2 (0 : Fin 2) p)
      = a (ix2 (⟨p.val % 25000, by omega⟩ : Fin 25000) (⟨p.val / 25000, by omega⟩ : Fin 256)) := by
  rw [outIdx_split]
  generalize (⟨p.val % 25000, by omega⟩ : Fin 25000) = n
  generalize (⟨p.val / 25000, by omega⟩ : Fin 256) = q
  pointwise

/-- The second row holds the channel's number. -/
theorem outIdx_one (a : IVec S25000x256 32) (p : Fin 6400000) :
    outIdx a (ix2 (1 : Fin 2) p) = BitVec.ofNat 32 (p.val / 25000) := by
  rw [outIdx_split]
  generalize (⟨p.val % 25000, by omega⟩ : Fin 25000) = n
  generalize hq : (⟨p.val / 25000, by omega⟩ : Fin 256) = q
  have hq' : p.val / 25000 = q.val := by rw [← hq]
  rw [hq']
  pointwise

end Cert.Ref
-- ==== Proof.RefArgmax.lean ====
module

public import proofs.«01_k».proof.Proof.RefLayout
public import Idealize.ShloMosaic.PureOps.Ideal.Laws
public import Mathlib.Data.List.Sort

/-! The reference's arg-max: the place of the first largest product of a group. -/

@[expose] public section

set_option maxRecDepth 16384

noncomputable section

namespace Cert.Ref

open Cert.ReferenceIdeal Cert.ReferenceIdeal.Gen
open Idealize.ShloMosaic Idealize.ShloMosaic.TcCoe Idealize.ShloMosaic.StableHlo Cert.Spec

/-- The numbers below `N` that satisfy `p`, in order, when an increasing `g` enumerates them. -/
theorem filter_finRange {N k : Nat} (p : Fin N → Prop) [DecidablePred p] (g : Fin k → Fin N) (hg : StrictMono g)
    (hp : ∀ n, p n ↔ ∃ i, g i = n) : ((List.finRange N).filter fun n => p n) = (List.finRange k).map g := by
  refine List.Pairwise.eq_of_mem_iff (r := (· < ·)) ((List.pairwise_lt_finRange N).filter _) ?_ fun n => ?_
  · rw [List.pairwise_map]
    exact (List.pairwise_lt_finRange k).imp fun h => hg h
  · simp [hp]

/-- One step of the reference's fold, over a later label: the better of the two. -/
theorem reducer_step (p q : EReal × BitVec 32) (h : IntOp.cmpi .slt p.2 q.2 = 1#1) :
    reducer_argmax_f32_i32 (F := Ideal) p q = better p q := by
  obtain ⟨a, i⟩ := p
  obtain ⟨b, k⟩ := q
  unfold reducer_argmax_f32_i32 better
  simp only at h
  simp only [h, Ideal.cmpf_def, Ideal.cmp]
  rcases lt_trichotomy a b with hab | hab | hab
  · simp [hab, hab.ne, not_lt.mpr hab.le, IntOp.ori, IntOp.andi, Scalar.select]
  · subst hab; simp [IntOp.ori, IntOp.andi, Scalar.select]
  · simp [hab, hab.ne', not_lt.mpr hab.le, IntOp.ori, IntOp.andi, Scalar.select]

/-- The better of two earlier labels is an earlier label. -/
theorem better_earlier (p q : EReal × BitVec 32) (l : BitVec 32) (hp : IntOp.cmpi .slt p.2 l = 1#1)
    (hq : IntOp.cmpi .slt q.2 l = 1#1) : IntOp.cmpi .slt (better p q).2 l = 1#1 := by
  unfold better; split_ifs <;> assumption

/-- The fold's first step meets nothing better than what it starts from. -/
theorem reducer_first (b : EReal) : reducer_argmax_f32_i32 (F := Ideal) (⊥, 0#32) (b, 0#32) = (b, 0#32) := by
  unfold reducer_argmax_f32_i32
  simp [Ideal.cmpf_def, Ideal.cmp, IntOp.ori, IntOp.andi, Scalar.select]

/-- A fold over four pairs whose steps each take the better one finds the best. -/
theorem fold_best (f : EReal × BitVec 32 → EReal × BitVec 32 → EReal × BitVec 32) (s : EReal × BitVec 32)
    (p : Fin 4 → EReal × BitVec 32) (h0 : f s (p 0) = p 0) (h1 : f (p 0) (p 1) = better (p 0) (p 1))
    (h2 : f (better (p 0) (p 1)) (p 2) = better (better (p 0) (p 1)) (p 2))
    (h3 : f (better (better (p 0) (p 1)) (p 2)) (p 3) = better (better (better (p 0) (p 1)) (p 2)) (p 3)) :
    ((List.finRange 4).map p).foldl f s = best p := by
  show f (f (f (f s (p 0)) (p 1)) (p 2)) (p 3) = _
  rw [h0, h1, h2, h3]
  rfl

/-- The fold over a whole group finds the winner's label. -/
theorem fold_group (a : Fin 4 → EReal) :
    (((List.finRange 4).map fun k => (a k, BitVec.ofNat 32 k.val)).foldl (reducer_argmax_f32_i32 (F := Ideal)) (⊥, 0#32)).2
      = BitVec.ofNat 32 (winner a).val := by
  have s02 : IntOp.cmpi .slt 0#32 2#32 = 1#1 := by decide
  have s12 : IntOp.cmpi .slt 1#32 2#32 = 1#1 := by decide
  have s03 : IntOp.cmpi .slt 0#32 3#32 = 1#1 := by decide
  have s13 : IntOp.cmpi .slt 1#32 3#32 = 1#1 := by decide
  have s23 : IntOp.cmpi .slt 2#32 3#32 = 1#1 := by decide
  have s01 : IntOp.cmpi .slt 0#32 1#32 = 1#1 := by decide
  rw [← best_label a fun k => BitVec.ofNat 32 k.val]
  exact congrArg Prod.snd (fold_best _ _ _ (reducer_first (a 0)) (reducer_step _ _ s01)
    (reducer_step _ _ (better_earlier _ _ _ s02 s12))
    (reducer_step _ _ (better_earlier _ _ _ (better_earlier _ _ _ s03 s13) s23)))

/-- What a reduction along the middle axis meets at one result index, in order. -/
theorem fiber_middle {n0 n1 n2 : Nat} {α β : Type} (x : (⟨3, ![n0, n1, n2]⟩ : Shape).Idx → α)
    (y : (⟨3, ![n0, n1, n2]⟩ : Shape).Idx → β)
    (h : (⟨3, ![n0, n1, n2]⟩ : Shape).ReducesTo [1] (⟨2, ![n0, n2]⟩ : Shape)) (n : Fin n0) (q : Fin n2) :
    Host.argReduceFiber x y h (ix2 n q) = (List.finRange n1).map fun k => (x (ix3 n k q), y (ix3 n k q)) := by
  rw [Host.argReduceFiber,
    filter_finRange _ (fun k : Fin n1 => (⟨3, ![n0, n1, n2]⟩ : Shape).rowMajor (ix3 n k q)) ?_ ?_, List.map_map]
  · refine List.map_congr_left fun k _ => ?_
    simp only [Function.comp, Equiv.symm_apply_apply]
  · intro k l h
    rw [Fin.lt_def, Shape.rowMajor_val_three, Shape.rowMajor_val_three]
    show (n.val * n1 + k.val) * n2 + q.val < (n.val * n1 + l.val) * n2 + q.val
    have hkl : k.val < l.val := h
    have hq : 0 < n2 := lt_of_le_of_lt (Nat.zero_le _) q.isLt
    have := Nat.mul_lt_mul_of_pos_right (Nat.add_lt_add_left hkl (n.val * n1)) hq
    omega
  · intro i
    rw [Shape.ReducesTo.fiber_r3_a1]
    constructor
    · rintro ⟨k, hk⟩
      exact ⟨k, by rw [← Equiv.eq_symm_apply, ← hk]; rfl⟩
    · rintro ⟨k, hk⟩
      exact ⟨k, by rw [← hk, Equiv.symm_apply_apply]; rfl⟩

/-- The word the reference's fold starts from is the least number. -/
theorem start_eq : (FloatOps.ofBits (F := Ideal) .f32 0xFF800000#32) = (⊥ : EReal) := by
  show Ideal.ofBits .f32 0xFF800000#32 = ⊥
  simp [Ideal.ofBits, Ideal.ieee]

/-- The two-operand reduction along the middle axis is the fold over that axis. -/
theorem argReduce_middle {n0 n1 n2 : Nat} {u : Shape} {β : Type} (f : EReal × β → EReal × β → EReal × β)
    (x : FVec Ideal (⟨3, ![n0, n1, n2]⟩ : Shape) .f32) (y : (⟨3, ![n0, n1, n2]⟩ : Shape).Idx → β)
    (sx : FVec Ideal u .f32) (sy : u.Idx → β)
    (h : (⟨3, ![n0, n1, n2]⟩ : Shape).ReducesTo [1] (⟨2, ![n0, n2]⟩ : Shape)) (hu : 0 < u.numel) (n : Fin n0) (q : Fin n2) :
    Host.argReduce (F := Ideal) (φ := .f32) f x y sx sy h hu (ix2 n q)
      = ((List.finRange n1).map fun k => (x (ix3 n k q), y (ix3 n k q))).foldl f
          (sx (Shape.Idx.first hu), sy (Shape.Idx.first hu)) := by
  rw [Ideal.argReduce_eq_reduce2, Host.reduce2_eq_foldl_fiber, fiber_middle]

/-- A function made of second components, read where the pair is known. -/
theorem snd_at {α β γ : Type} {g : α → β × γ} {h : α → γ} (e : h = fun j => (g j).2) {j : α} {r : β × γ} (er : g j = r) :
    h j = r.2 := by subst e er; rfl

/-- The positions are the second components of the two-operand reduction. -/
theorem argmax_eq_snd (p : FVec Ideal S25000x4x256 .f32) :
    argmax p = fun j => (Host.argReduce (reducer_argmax_f32_i32 (F := Ideal)) p (iotaInDim S25000x4x256 32 1)
      (constant S_ .f32 0xFF800000#32) (constantI S_ 32 0#32) reducesTo_S25000x4x256_S25000x256_d1 h_S_ j).2 := by
  unfold argmax; with_reducible rfl

/-- The position found for a group and row place is the fold's label. -/
theorem argmax_fold (p : FVec Ideal S25000x4x256 .f32) (n : Fin 25000) (q : Fin 256) :
    argmax p (ix2 n q)
      = (((List.finRange 4).map fun k => (p (ix3 n k q), iotaInDim S25000x4x256 32 1 (ix3 n k q))).foldl
          (reducer_argmax_f32_i32 (F := Ideal))
          ((constant (F := Ideal) S_ .f32 0xFF800000#32) (Shape.Idx.first h_S_), (constantI S_ 32 0#32) (Shape.Idx.first h_S_))).2 :=
  snd_at (argmax_eq_snd p) (argReduce_middle _ _ _ _ _ _ _ _ _)

/-- The pair the fold starts from. -/
theorem start_pair : ((constant (F := Ideal) S_ .f32 0xFF800000#32) (Shape.Idx.first h_S_),
    (constantI S_ 32 0#32) (Shape.Idx.first h_S_)) = ((⊥ : EReal), 0#32) := Prod.ext start_eq rfl

/-- The position found for a group and row place is the winner of the group's products. -/
theorem argmax_apply (p : FVec Ideal S25000x4x256 .f32) (n : Fin 25000) (q : Fin 256) :
    argmax p (ix2 n q) = BitVec.ofNat 32 (winner fun k => p (ix3 n k q)).val := by
  rw [argmax_fold, start_pair]
  exact fold_group _

end Cert.Ref
-- ==== Proof.RefGather.lean ====
module

public import proofs.«01_k».proof.Proof.RefArgmax
public import Idealize.ShloMosaic.Lib.ReduceAll
public import Idealize.ShloMosaic.Lib.StableHlo.Predicate
public import Idealize.ShloMosaic.Lib.Routing.Ops
public import Idealize.ShloMosaic.Lib.ValueIdxCore

/-! The reference's three gathers, read at an index where every position lies in its table. -/

@[expose] public section

set_option maxRecDepth 16384

noncomputable section

namespace Cert.Ref

open Cert.ReferenceIdeal Cert.ReferenceIdeal.Gen
open Idealize.ShloMosaic Idealize.ShloMosaic.TcCoe Idealize.ShloMosaic.StableHlo Cert.Spec
open Idealize.ShloMosaic.StableHlo.Predicate

/-- A position below `2³¹` isn't negative, so the correction leaves it. -/
theorem fix_small (a n : BitVec 32) (ha : a.toNat < 2 ^ 31) :
    Scalar.select (IntOp.cmpi .slt a 0#32) (IntOp.addi a n) a = a := by
  have h : ¬ IntOp.cmpi .slt a 0#32 = 1#1 := by
    rw [slt_iff_toNat ha (by decide)]
    exact Nat.not_lt_zero _
  simp [Scalar.select, h]

/-- A position between 0 and `n` passes both bounds. -/
theorem bounds_small (a n : BitVec 32) (hn : n.toNat < 2 ^ 31) (ha : a.toNat ≤ n.toNat) :
    IntOp.andi (IntOp.cmpi .sge a 0#32) (IntOp.cmpi .sle a n) = 1#1 := by
  have ha' := lt_of_le_of_lt ha hn
  rw [(sge_iff_toNat ha' (by decide)).2 (Nat.zero_le _), (sle_iff_toNat ha' hn).2 ha]
  rfl

/-! ### The rows -/

/-- Each gathered row starts at its own number. -/
theorem takeAt_apply (col : IVec S100000 32) (r : Fin 100000) (h : (col (ix1 r)).toNat < 2 ^ 31) :
    takeAt col (ix2 r (0 : Fin 1)) = col (ix1 r) := by
  unfold takeAt
  rw [broadcastInDim_apply _ _ _ _ (ix1 r) (by intro a; fin_cases a <;> rfl)]
  exact fix_small _ _ h

/-- All starts lie in the table. -/
theorem takeIn_one (col : IVec S100000 32) (h : ∀ r : Fin 100000, (col (ix1 r)).toNat ≤ 99999) (j : S100000.Idx) :
    takeIn (takeAt col) j = 1#1 := by
  unfold takeIn
  refine Host.reduce_andi_one _ _ _ _ _ rfl fun i => ?_
  obtain ⟨r, z, rfl⟩ : ∃ (r : Fin 100000) (z : Fin 1), i = ix2 r z := ⟨i 0, i 1, (eq_ix2 i)⟩
  obtain rfl : z = 0 := Subsingleton.elim _ _
  show IntOp.andi (IntOp.cmpi .sge (takeAt col (ix2 r (0 : Fin 1))) 0#32)
    (IntOp.cmpi .sle (takeAt col (ix2 r (0 : Fin 1))) 99999#32) = 1#1
  rw [takeAt_apply _ _ (lt_of_le_of_lt (h r) (by decide))]
  exact bounds_small _ _ (by decide) (h r)

/-- The rows at the numbers `0, 1, 2, …` are the rows. -/
theorem take_apply (t : FVec Ideal S100000x256 .f32) (col : IVec S100000 32)
    (h : ∀ r : Fin 100000, col (ix1 r) = BitVec.ofNat 32 r.val) (r : Fin 100000) (q : Fin 256) :
    take t col (ix2 r q) = t (ix2 r q) := by
  have hn (r : Fin 100000) : (col (ix1 r)).toNat ≤ 99999 := by
    rw [h, BitVec.toNat_ofNat]
    exact (Nat.mod_le _ _).trans (by omega)
  unfold take
  have hin : broadcastInDim S100000x256 ![0] bcast_S100000_S100000x256_0 (takeIn (takeAt col)) (ix2 r q) = 1#1 := by
    rw [broadcastInDim_apply _ _ _ _ (ix1 r) (by intro a; fin_cases a <;> rfl)]
    exact takeIn_one col hn _
  show Scalar.select _ (Host.gather _ t (takeAt col) (ix2 r q)) _ = _
  rw [hin]
  show Host.gather _ t (takeAt col) (ix2 r q) = _
  exact Routing.gather_row _ rfl rfl rfl rfl rfl t _ r q r
    ((takeAt_apply col r (lt_of_le_of_lt (hn r) (by decide))).trans (h r)) (by decide)

/-! ### Along an axis -/

/-- Each position is the one given. -/
theorem alongAt_apply (m : BitVec 32) (a : IVec S25000x256 32) (n : Fin 25000) (q : Fin 256)
    (h : (a (ix2 n q)).toNat < 2 ^ 31) : alongAt m a (ix3 n q (0 : Fin 1)) = a (ix2 n q) := by
  unfold alongAt
  rw [shapeCast_apply _ _ (ix3 n q (0 : Fin 1)) (ix2 n q)
    (by rw [Shape.rowMajor_val_three, Shape.rowMajor_val_two]
        show n.val * 256 + q.val = (n.val * 256 + q.val) * 1 + 0
        omega)]
  exact fix_small _ _ h

/-- All positions lie in the table. -/
theorem alongIn_one (l m : BitVec 32) (a : IVec S25000x256 32) (hl : l.toNat < 2 ^ 31)
    (h : ∀ (n : Fin 25000) (q : Fin 256), (a (ix2 n q)).toNat ≤ l.toNat) (j : S25000x256.Idx) :
    alongIn l (alongAt m a) j = 1#1 := by
  unfold alongIn
  refine Host.reduce_andi_one _ _ _ _ _ rfl fun i => ?_
  obtain ⟨n, q, z, rfl⟩ : ∃ (n : Fin 25000) (q : Fin 256) (z : Fin 1), i = ix3 n q z := ⟨i 0, i 1, i 2, (eq_ix3 i)⟩
  obtain rfl : z = 0 := Subsingleton.elim _ _
  show IntOp.andi (IntOp.cmpi .sge (alongAt m a (ix3 n q (0 : Fin 1))) 0#32)
    (IntOp.cmpi .sle (alongAt m a (ix3 n q (0 : Fin 1))) l) = 1#1
  rw [alongAt_apply _ _ _ _ (lt_of_le_of_lt (h n q) hl)]
  exact bounds_small _ _ hl (h n q)

/-- The start of a result entry's slice in a table gathered along its second axis. -/
theorem gather_along_second {N K C w : Nat} {α : Type} (hK : 0 < K)
    (wf : GatherDims.WF ⟨2, ![N, K]⟩ ⟨3, ![N, C, 1]⟩ ⟨2, ![N, C]⟩ [] [1] [0] [1] [0] 2 ![1, 1])
    (x : (⟨2, ![N, K]⟩ : Shape).Idx → α) (idx : IVec ⟨3, ![N, C, 1]⟩ w) (n : Fin N) (c : Fin C) :
    Host.gather (⟨[], [1], [0], [0], [1], 2, ![1, 1], wf⟩ : GatherDims ⟨2, ![N, K]⟩ ⟨3, ![N, C, 1]⟩ ⟨2, ![N, C]⟩) x idx
        (ix2 n c)
      = x (ix2 n ⟨min (idx (ix3 n c (0 : Fin 1))).toInt.toNat (K - 1), by omega⟩) := by
  unfold Host.gather
  refine congrArg x (funext fun a => Fin.ext ?_)
  generalize hd : (⟨[], [1], [0], [0], [1], 2, ![1, 1], wf⟩ : GatherDims ⟨2, ![N, K]⟩ ⟨3, ![N, C, 1]⟩ ⟨2, ![N, C]⟩) = d
  show d.start (ix2 n c) idx a + d.batchCoord (ix2 n c) a + d.offCoord (ix2 n c) a = _
  have hoff : d.offCoord (ix2 n c) a = 0 := d.offCoord_eq_zero _ _ fun h => by
    have h' := (d.mem_sKept a).1 h
    subst hd
    match a with
    | ⟨0, _⟩ => exact h'.2 (List.mem_singleton.2 rfl)
    | ⟨1, _⟩ => exact h'.1 (List.mem_singleton.2 rfl)
  rw [hoff, Nat.add_zero]
  match a with
  | ⟨0, _⟩ =>
    have hb : (0 : Fin 2) ∈ d.operandBatchingDims := by subst hd; exact List.mem_singleton.2 rfl
    show d.start (ix2 n c) idx 0 + d.batchCoord (ix2 n c) 0 = n.val
    rw [d.start_batching _ _ _ hb, Nat.zero_add, GatherDims.batchCoord, dif_pos hb]
    subst hd
    rfl
  | ⟨1, _⟩ =>
    have hb : (1 : Fin 2) ∉ d.operandBatchingDims := by
      subst hd
      intro h
      have h' : (1 : Fin 2) = 0 := List.mem_singleton.1 h
      exact absurd h' (by decide)
    have hm : (1 : Fin 2) ∈ d.startIndexMap := by subst hd; exact List.mem_singleton.2 rfl
    show d.start (ix2 n c) idx 1 + d.batchCoord (ix2 n c) 1 = _
    rw [d.batchCoord_eq_zero _ _ hb, Nat.add_zero, GatherDims.start, dif_pos hm]
    subst hd
    congr 3
    refine congrArg idx (funext fun b => Fin.ext ?_)
    match b with
    | ⟨0, _⟩ => rfl
    | ⟨1, _⟩ => rfl
    | ⟨2, _⟩ => rfl

/-- The number of each group at the place found. -/
theorem pick_apply (t : IVec S25000x4 32) (a : IVec S25000x256 32) (k : Fin 25000 → Fin 256 → Fin 4)
    (h : ∀ n q, a (ix2 n q) = BitVec.ofNat 32 (k n q).val) (n : Fin 25000) (q : Fin 256) :
    pick t a (ix2 n q) = t (ix2 n (k n q)) := by
  have hn (n : Fin 25000) (q : Fin 256) : (a (ix2 n q)).toNat ≤ 3 := by
    rw [h, BitVec.toNat_ofNat]
    exact (Nat.mod_le _ _).trans (by omega)
  unfold pick
  show Scalar.select (alongIn 3#32 (alongAt 4#32 a) (ix2 n q)) (Host.gather _ t (alongAt 4#32 a) (ix2 n q)) _ = _
  rw [alongIn_one _ _ _ (by decide) hn]
  refine (gather_along_second (by decide) _ t (alongAt 4#32 a) n q).trans ?_
  refine congrArg t (congrArg (ix2 n) (Fin.ext ?_))
  show min (alongAt 4#32 a (ix3 n q (0 : Fin 1))).toInt.toNat 3 = _
  rw [alongAt_apply _ _ _ _ (lt_of_le_of_lt (hn n q) (by decide)), h]
  show min (BitVec.ofNat 32 (k n q).val).toInt.toNat 3 = (k n q).val
  rw [toInt_ofNat_small _ (by omega)]
  show min ((k n q).val : Int).toNat 3 = (k n q).val
  omega

/-- The entry of the rows at the node found. -/
theorem fetch_apply (t : FVec Ideal S100000x256 .f32) (a : IVec S25000x256 32) (k : Fin 25000 → Fin 256 → Fin 100000)
    (h : ∀ n q, a (ix2 n q) = BitVec.ofNat 32 (k n q).val) (n : Fin 25000) (q : Fin 256) :
    fetch t a (ix2 n q) = t (ix2 (k n q) q) := by
  have hn (n : Fin 25000) (q : Fin 256) : (a (ix2 n q)).toNat ≤ 99999 := by
    rw [h, BitVec.toNat_ofNat]
    exact (Nat.mod_le _ _).trans (by omega)
  unfold fetch
  show Scalar.select (alongIn 99999#32 (alongAt 100000#32 a) (ix2 n q)) (Host.gather _ t (alongAt 100000#32 a) (ix2 n q)) _ = _
  rw [alongIn_one _ _ _ (by decide) hn]
  refine (ValueIdx.gather_take_rows_apply (by decide) _ t (alongAt 100000#32 a) (ix2 n q)).trans ?_
  have hi : ValueIdx.takeIdx (ix2 n q) = ix3 n q (0 : Fin 1) := by
    funext b; fin_cases b <;> rfl
  refine congrArg t (congrArg (fun r => ix2 r q) (Fin.ext ?_))
  show min (alongAt 100000#32 a (ValueIdx.takeIdx (ix2 n q))).toInt.toNat 99999 = _
  rw [hi, alongAt_apply _ _ _ _ (lt_of_le_of_lt (hn n q) (by decide)), h]
  show min (BitVec.ofNat 32 (k n q).val).toInt.toNat 99999 = (k n q).val
  rw [toInt_ofNat_small _ (by omega)]
  show min ((k n q).val : Int).toNat 99999 = (k n q).val
  omega

end Cert.Ref
-- ==== Proof.RefValue.lean ====
module

public import proofs.«01_k».proof.Proof.RefLayout
public import proofs.«01_k».proof.Proof.RefArgmax
public import proofs.«01_k».proof.Proof.RefGather

/-! The reference's two results, index by index, where the columns are the nodes in their order. -/

@[expose] public section

set_option maxRecDepth 16384

noncomputable section

namespace Cert.Ref

open Cert.ReferenceIdeal
open Idealize.ShloMosaic Idealize.ShloMosaic.TcCoe Cert.Spec

section
variable (x : FVec Ideal S2x100000x128 .f32) (col : IVec S100000 32) (w : FVec Ideal S100000 .f32)
  (h : ∀ r : Fin 100000, col (ix1 r) = BitVec.ofNat 32 r.val)
include h

/-- The number of the winning node of group `n`, in channel `q` of the two batches folded together. -/
theorem found_apply (n : Fin 25000) (q : Fin 256) :
    found x col w (ix2 n q)
      = BitVec.ofNat 32 (node n (place x w ⟨q.val % 2, by omega⟩ n ⟨q.val / 2, by omega⟩)).val := by
  unfold found
  rw [pick_apply (cols col) _ (fun n q => place x w ⟨q.val % 2, by omega⟩ n ⟨q.val / 2, by omega⟩) ?_ n q, cols_apply, h]
  intro n q
  rw [argmax_apply]
  unfold place
  refine congrArg (fun f => BitVec.ofNat 32 (winner f).val) (funext fun k => ?_)
  rw [weigh_apply, take_apply _ _ h, rows_apply]
  exact mul_comm _ _

/-- The first result. -/
theorem val_eq : outVal (fetch (rows x) (found x col w)) = pooled x w := by
  funext j
  obtain ⟨b, n, v, rfl⟩ := (⟨j 0, j 1, j 2, eq_ix3 j⟩ : ∃ (b : Fin 2) (n : Fin 25000) (v : Fin 128), j = ix3 b n v)
  rw [outVal_apply, fetch_apply (rows x) _ _ (found_apply x col w h), rows_apply]
  have eb : (⟨(2 * v.val + b.val) % 2, by omega⟩ : Fin 2) = b := Fin.ext (by show (2 * v.val + b.val) % 2 = b.val; omega)
  have ev : (⟨(2 * v.val + b.val) / 2, by omega⟩ : Fin 128) = v := Fin.ext (by show (2 * v.val + b.val) / 2 = v.val; omega)
  show x (ix3 (⟨(2 * v.val + b.val) % 2, _⟩ : Fin 2) (node n (place x w ⟨(2 * v.val + b.val) % 2, _⟩ n
    ⟨(2 * v.val + b.val) / 2, _⟩)) (⟨(2 * v.val + b.val) / 2, _⟩ : Fin 128)) = x (ix3 b (node n (place x w b n v)) v)
  rw [eb, ev]

/-- The second result. -/
theorem idx_eq : outIdx (found x col w) = index x w := by
  funext j
  obtain ⟨a, p, rfl⟩ := (⟨j 0, j 1, eq_ix2 j⟩ : ∃ (a : Fin 2) (p : Fin 6400000), j = ix2 a p)
  fin_cases a
  · exact (outIdx_zero _ p).trans (found_apply x col w h _ _)
  · exact outIdx_one _ p

end

end Cert.Ref
-- ==== Proof.Equal.lean ====
module

public import proofs.«01_k».proof.Defs
public import proofs.«01_k».proof.Proof.KernelRun
public import proofs.«01_k».proof.Proof.RefRun
public import proofs.«01_k».proof.Proof.RefValue
public import proofs.«01_k».proof.Proof.Gen.ReferenceIdeal
public import proofs.«01_k».proof.Proof.Gen.Pre_every_node_once
public import Idealize.ShloMosaic.Lib.ReduceAll
public import Idealize.ShloMosaic.Lib.StableHlo.Predicate

/-! The kernel and the reference give the same two results where the columns are the nodes in their order. -/

@[expose] public section

set_option maxRecDepth 16384

noncomputable section

namespace Cert.Equal

open Idealize.ShloMosaic Idealize.ShloMosaic.TcCoe Idealize.SL.Sem Cert.Spec

instance : Subsingleton Cert.Pre_every_node_once.S_.Idx := ⟨fun _ _ => funext fun a => a.elim0⟩

/-- The precondition says that column `r` names node `r`. -/
theorem columns_in_order [Cert.Pre_every_node_once.Facts] (x : FVec Ideal Cert.Pre_every_node_once.S2x100000x128 .f32)
    (col : IVec Cert.Pre_every_node_once.S100000 32) (w : FVec Ideal Cert.Pre_every_node_once.S100000 .f32)
    (h : Cert.Pre_every_node_once.fn (F := Ideal) x col w = fun _ => 1#1) (r : Fin 100000) :
    col (ix1 r) = BitVec.ofNat 32 r.val := by
  unfold Cert.Pre_every_node_once.fn at h
  dsimp only at h
  have e := Host.reduce_andi_all _ _ _ _ ix0 (congrFun h ix0) (ix1 r)
  exact StableHlo.Predicate.cmpi_eq_iff.1 e

/-- The two programs' results agree, and neither touches its arguments. -/
theorem algebraic : Cert.algebraic_KernelIdeal_ReferenceIdeal_pre_every_node_once := by
  intro m g m' g' hpre hagree
  refine ⟨fun c => pooled (Cert.Kern.entries m c) (Cert.Kern.weights m c),
    fun c => index (Cert.Kern.entries m c) (Cert.Kern.weights m c), ?_, ?_⟩
  · exact (θ_run _ _ _).mono (fun r h c => ⟨(h.1 c).1.1, (h.1 c).1.2, (h.1 c).2⟩) (Cert.Kern.run m g)
  · refine (θ_run _ _ _).mono (fun r h c => ?_) (Cert.Ref.run m' g')
    obtain ⟨hv, hi, ha⟩ := h.1 c
    have hcol := columns_in_order _ _ _ (hpre c)
    obtain ⟨e0, e1, e2⟩ := hagree c
    refine ⟨hv.trans ?_, hi.trans ?_, ha⟩
    · rw [e0, e1, e2]
      exact Cert.Ref.val_eq _ _ _ hcol
    · rw [e0, e1, e2]
      exact Cert.Ref.idx_eq _ _ _ hcol

/-- The reference's run leaves its arguments and every counter as they were. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun _ h => ⟨fun c => (h.1 c).2.2, h.2⟩) (Cert.Ref.run m g)

end Cert.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_every_node_once
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim: both programs' frames, the reference's, and the equality of the two results. -/
theorem claim : Cert.Claim :=
  ⟨Cert.Kernel.Gen.facts, Cert.KernelIdeal.Gen.facts, Cert.ReferenceIdeal.Gen.facts, Cert.Pre_every_node_once.Gen.facts,
    fun m g _ => Cert.Kernel.Gen.frame m g,
    fun m g _ => Cert.KernelIdeal.Gen.frame m g,
    fun m g _ => Cert.KernelIdeal.Gen.frame m g,
    fun m g _ => Cert.Equal.reference_frame m g,
    fun m g _ => Cert.Equal.reference_frame m g,
    trivial,
    Cert.Equal.algebraic⟩

end Cert.Proof

end
